-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_paired_molecules [hPre_paired_molecules : Cert.Pre_paired_molecules.Facts] (m : (ℓ : Loc Cert.KernelIdeal.nD Cert.KernelIdeal.τ Cert.KernelIdeal.sig) → Buf (Elt Ideal) ℓ) : Prop :=
  ∀ c : Dev Cert.KernelIdeal.nD,
    (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_paired_molecules.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_paired_molecules [hPre_paired_molecules : Cert.Pre_paired_molecules.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_paired_molecules.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_paired_molecules [hKernelIdeal : Cert.KernelIdeal.Facts] [hPre_paired_molecules : Cert.Pre_paired_molecules.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_paired_molecules m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_paired_molecules [hReferenceIdeal : Cert.ReferenceIdeal.Facts] [hPre_paired_molecules : Cert.Pre_paired_molecules.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_paired_molecules m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_paired_molecules [hKernelIdeal : Cert.KernelIdeal.Facts] [hReferenceIdeal : Cert.ReferenceIdeal.Facts] [hPre_paired_molecules : Cert.Pre_paired_molecules.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_paired_molecules m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_paired_molecules : Cert.Pre_paired_molecules.Facts),
    quiescent_Kernel (hKernel := hKernel)
    ∧ quiescent_KernelIdeal (hKernelIdeal := hKernelIdeal)
    ∧ quiescent_KernelIdeal_pre_paired_molecules (hKernelIdeal := hKernelIdeal) (hPre_paired_molecules := hPre_paired_molecules)
    ∧ quiescent_ReferenceIdeal (hReferenceIdeal := hReferenceIdeal)
    ∧ quiescent_ReferenceIdeal_pre_paired_molecules (hReferenceIdeal := hReferenceIdeal) (hPre_paired_molecules := hPre_paired_molecules)
    ∧ preserves_Kernel_KernelIdeal
    ∧ algebraic_KernelIdeal_ReferenceIdeal_pre_paired_molecules (hKernelIdeal := hKernelIdeal) (hReferenceIdeal := hReferenceIdeal) (hPre_paired_molecules := hPre_paired_molecules)
-- ==== Pre_paired_molecules.lean ====
abbrev S10000x128 : Shape := ⟨2, ![10000, 128]⟩
abbrev S320000x144 : Shape := ⟨2, ![320000, 144]⟩
abbrev S2x320000 : Shape := ⟨2, ![2, 320000]⟩
abbrev S10000 : Shape := ⟨1, ![10000]⟩
abbrev S144x128 : Shape := ⟨2, ![144, 128]⟩
abbrev S128x128 : Shape := ⟨2, ![128, 128]⟩
abbrev S256x128 : Shape := ⟨2, ![256, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S160000x2 : Shape := ⟨2, ![160000, 2]⟩
abbrev S100x3200 : Shape := ⟨2, ![100, 3200]⟩
abbrev S_ : Shape := ⟨0, ![]⟩
abbrev S160000x1 : Shape := ⟨2, ![160000, 1]⟩
abbrev S160000 : Shape := ⟨1, ![160000]⟩
abbrev S100x100 : Shape := ⟨2, ![100, 100]⟩

class Facts : Prop where
  slices_S2x320000_S1x320000_0_0 : S2x320000.Slices ![0, 0] S1x320000
  shapeCasts_S1x320000_S320000 : S1x320000.ShapeCasts S320000
  shapeCasts_S320000_S160000x2 : S320000.ShapeCasts S160000x2
  slices_S2x320000_S1x320000_1_0 : S2x320000.Slices ![1, 0] S1x320000
  bcast_S_S100x3200 : S_.BroadcastsInDim S100x3200 (![] : Fin 0 → Fin S100x3200.rank)
  shapeCasts_S320000_S100x3200 : S320000.ShapeCasts S100x3200
  slices_S160000x2_S160000x1_0_0 : S160000x2.Slices ![0, 0] S160000x1
  shapeCasts_S160000x1_S160000 : S160000x1.ShapeCasts S160000
  slices_S160000x2_S160000x1_0_1 : S160000x2.Slices ![0, 1] S160000x1
  shapeCasts_S10000_S100x100 : S10000.ShapeCasts S100x100
  bcast_S_S320000x144 : S_.BroadcastsInDim S320000x144 (![] : Fin 0 → Fin S320000x144.rank)
  bcast_S_S144x128 : S_.BroadcastsInDim S144x128 (![] : Fin 0 → Fin S144x128.rank)
  bcast_S_S128x128 : S_.BroadcastsInDim S128x128 (![] : Fin 0 → Fin S128x128.rank)

variable [Facts]

def fn_part1 {F : FTy → Type} [FloatOps F] (main_arg1 : FVec F S320000x144 .f32) (main_arg3 : IVec S10000 32) (main_arg4 : FVec F S144x128 .f32) (main_arg5 : FVec F S128x128 .f32) (main_v5 : IVec S160000x2 32) (main_v12 : IVec S100x3200 1) (main_v15 : IVec S100x3200 1) (main_v20 : IVec S160000 1) (main_v21 : IVec S160000x1 32) : IVec S100x3200 1 × IVec S100x3200 1 × IVec S160000 1 × IVec S160000 1 × IVec S100x100 1 × IVec S320000x144 1 × IVec S144x128 1 × IVec S128x128 1 :=
  let main_v22 : IVec S160000 32 := shapeCast S160000 main_v21 shapeCasts_S160000x1_S160000
  let main_v23 : IVec S160000x1 32 := (extractStridedSlice S160000x1 ![0, 0] · slices_S160000x2_S160000x1_0_0) main_v5
  let main_v24 : IVec S160000 32 := shapeCast S160000 main_v23 shapeCasts_S160000x1_S160000
  let main_v25 : IVec S160000 1 := cmpi .eq main_v22 main_v24
  let main_v26 : IVec S100x100 32 := shapeCast S100x100 main_arg3 shapeCasts_S10000_S100x100
  let main_v27 : IVec S100x100 32 := iotaInDim S100x100 32 0
  let main_v28 : IVec S100x100 1 := cmpi .eq main_v26 main_v27
  let main_v29 : FVec F S320000x144 .f32 := Host.absf main_arg1
  let main_cst : FVec F S_ .f32 := constant S_ .f32 0x7F800000#32
  let main_v30 : FVec F S320000x144 .f32 := broadcastInDim S320000x144 ![] bcast_S_S320000x144 main_cst
  let main_v31 : IVec S320000x144 1 := cmpf .olt main_v29 main_v30
  let main_v32 : FVec F S144x128 .f32 := Host.absf main_arg4
  let main_cst_1 : FVec F S_ .f32 := constant S_ .f32 0x7F800000#32
  let main_v33 : FVec F S144x128 .f32 := broadcastInDim S144x128 ![] bcast_S_S144x128 main_cst_1
  let main_v34 : IVec S144x128 1 := cmpf .olt main_v32 main_v33
  let main_v35 : FVec F S128x128 .f32 := Host.absf main_arg5
  let main_cst_2 : FVec F S_ .f32 := constant S_ .f32 0x7F800000#32
  let main_v36 : FVec F S128x128 .f32 := broadcastInDim S128x128 ![] bcast_S_S128x128 main_cst_2
  let main_v37 : IVec S128x128 1 := cmpf .olt main_v35 main_v36
  (main_v12, main_v15, main_v20, main_v25, main_v28, main_v31, main_v34, main_v37)

def fn {F : FTy → Type} [FloatOps F] (main_arg0 : FVec F S10000x128 .f32) (main_arg1 : FVec F S320000x144 .f32) (main_arg2 : IVec S2x320000 32) (main_arg3 : IVec S10000 32) (main_arg4 : FVec F S144x128 .f32) (main_arg5 : FVec F S128x128 .f32) (main_arg6 : FVec F S256x128 .f32) (main_arg7 : FVec F S128 .f32) (main_arg8 : FVec F S128x128 .f32) (main_arg9 : FVec F S128 .f32) (main_arg10 : FVec F S128x16 .f32) (main_arg11 : FVec F S16 .f32) (main_arg12 : FVec F S128x128 .f32) (main_arg13 : FVec F S128 .f32) (main_arg14 : FVec F S128x1 .f32) (main_arg15 : FVec F S1 .f32) : IVec S100x3200 1 × IVec S100x3200 1 × IVec S160000 1 × IVec S160000 1 × IVec S100x100 1 × IVec S320000x144 1 × IVec S144x128 1 × IVec S128x128 1 :=
  let main_v0 : IVec S1x320000 32 := (extractStridedSlice S1x320000 ![0, 0] · slices_S2x320000_S1x320000_0_0) main_arg2
  let main_v1 : IVec S320000 32 := shapeCast S320000 main_v0 shapeCasts_S1x320000_S320000
  let main_v2 : IVec S160000x2 32 := shapeCast S160000x2 main_v1 shapeCasts_S320000_S160000x2
  let main_v3 : IVec S1x320000 32 := (extractStridedSlice S1x320000 ![1, 0] · slices_S2x320000_S1x320000_1_0) main_arg2
  let main_v4 : IVec S320000 32 := shapeCast S320000 main_v3 shapeCasts_S1x320000_S320000
  let main_v5 : IVec S160000x2 32 := shapeCast S160000x2 main_v4 shapeCasts_S320000_S160000x2
  let main_v6 : IVec S100x3200 32 := iotaInDim S100x3200 32 0
  let main_c : IVec S_ 32 := constantI S_ 32 100#32
  let main_v7 : IVec S100x3200 32 := broadcastInDim S100x3200 ![] bcast_S_S100x3200 main_c
  let main_v8 : IVec S100x3200 32 := muli main_v7 main_v6
  let main_v9 : IVec S1x320000 32 := (extractStridedSlice S1x320000 ![1, 0] · slices_S2x320000_S1x320000_1_0) main_arg2
  let main_v10 : IVec S320000 32 := shapeCast S320000 main_v9 shapeCasts_S1x320000_S320000
  let main_v11 : IVec S100x3200 32 := shapeCast S100x3200 main_v10 shapeCasts_S320000_S100x3200
  let main_v12 : IVec S100x3200 1 := cmpi .sle main_v8 main_v11
  let main_c_0 : IVec S_ 32 := constantI S_ 32 100#32
  let main_v13 : IVec S100x3200 32 := broadcastInDim S100x3200 ![] bcast_S_S100x3200 main_c_0
  let main_v14 : IVec S100x3200 32 := addi main_v8 main_v13
  let main_v15 : IVec S100x3200 1 := cmpi .slt main_v11 main_v14
  let main_v16 : IVec S160000x1 32 := (extractStridedSlice S160000x1 ![0, 0] · slices_S160000x2_S160000x1_0_0) main_v2
  let main_v17 : IVec S160000 32 := shapeCast S160000 main_v16 shapeCasts_S160000x1_S160000
  let main_v18 : IVec S160000x1 32 := (extractStridedSlice S160000x1 ![0, 1] · slices_S160000x2_S160000x1_0_1) main_v5
  let main_v19 : IVec S160000 32 := shapeCast S160000 main_v18 shapeCasts_S160000x1_S160000
  let main_v20 : IVec S160000 1 := cmpi .eq main_v17 main_v19
  let main_v21 : IVec S160000x1 32 := (extractStridedSlice S160000x1 ![0, 1] · slices_S160000x2_S160000x1_0_1) main_v2
  fn_part1 (F := F) main_arg1 main_arg3 main_arg4 main_arg5 main_v5 main_v12 main_v15 main_v20 main_v21
-- ==== Kernel.lean ====
abbrev S10000x128 : Shape := ⟨2, ![10000, 128]⟩
abbrev S320000x144 : Shape := ⟨2, ![320000, 144]⟩
abbrev S2x320000 : Shape := ⟨2, ![2, 320000]⟩
abbrev S10000 : Shape := ⟨1, ![10000]⟩
abbrev S144x128 : Shape := ⟨2, ![144, 128]⟩
abbrev S128x128 : Shape := ⟨2, ![128, 128]⟩
abbrev S256x128 : Shape := ⟨2, ![256, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S100x3200 : Shape := ⟨2, ![100, 3200]⟩
abbrev S160000 : Shape := ⟨1, ![160000]⟩
abbrev S100x1600 : Shape := ⟨2, ![100, 1600]⟩
abbrev S1x128 : Shape := ⟨2, ![1, 128]⟩
abbrev S1x16 : Shape := ⟨2, ![1, 16]⟩
abbrev S1x1 : Shape := ⟨2, ![1, 1]⟩
abbrev S160000x16 : Shape := ⟨2, ![160000, 16]⟩
abbrev S100x1 : Shape := ⟨2, ![100, 1]⟩
abbrev S200x128 : Shape := ⟨2, ![200, 128]⟩
abbrev S6400x144 : Shape := ⟨2, ![6400, 144]⟩
abbrev S3200x16 : Shape := ⟨2, ![3200, 16]⟩
abbrev S104x128 : Shape := ⟨2, ![104, 128]⟩
abbrev S6400x128 : Shape := ⟨2, ![6400, 128]⟩
abbrev S1x3200 : Shape := ⟨2, ![1, 3200]⟩
abbrev S128x3200 : Shape := ⟨2, ![128, 3200]⟩
abbrev S3200x128 : Shape := ⟨2, ![3200, 128]⟩
abbrev S1600x2x128 : Shape := ⟨3, ![1600, 2, 128]⟩
abbrev S1600x1x128 : Shape := ⟨3, ![1600, 1, 128]⟩
abbrev S1600x128 : Shape := ⟨2, ![1600, 128]⟩
abbrev S100x128 : Shape := ⟨2, ![100, 128]⟩
abbrev S28x128 : Shape := ⟨2, ![28, 128]⟩
abbrev S128x1600 : Shape := ⟨2, ![128, 1600]⟩
abbrev S1x1600 : Shape := ⟨2, ![1, 1600]⟩
abbrev S1600x16 : Shape := ⟨2, ![1600, 16]⟩

abbrev nBuf : Space → Nat
  | .hbm => 33
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S320000x144, .f32⟩
  | .hbm, ⟨2, _⟩ => ⟨S2x320000, .i32⟩
  | .hbm, ⟨3, _⟩ => ⟨S10000, .i32⟩
  | .hbm, ⟨4, _⟩ => ⟨S144x128, .f32⟩
  | .hbm, ⟨5, _⟩ => ⟨S128x128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S128x128, .f32⟩
  | .hbm, ⟨13, _⟩ => ⟨S128, .f32⟩
  | .hbm, ⟨14, _⟩ => ⟨S128x1, .f32⟩
  | .hbm, ⟨15, _⟩ => ⟨S1, .f32⟩
  | .hbm, ⟨16, _⟩ => ⟨S1x320000, .i32⟩
  | .hbm, ⟨17, _⟩ => ⟨S320000, .i32⟩
  | .hbm, ⟨18, _⟩ => ⟨S1x320000, .i32⟩
  | .hbm, ⟨19, _⟩ => ⟨S320000, .i32⟩
  | .hbm, ⟨20, _⟩ => ⟨S100x3200, .i32⟩
  | .hbm, ⟨21, _⟩ => ⟨S160000, .i32⟩
  | .hbm, ⟨22, _⟩ => ⟨S100x1600, .i32⟩
  | .hbm, ⟨23, _⟩ => ⟨S160000, .i32⟩
  | .hbm, ⟨24, _⟩ => ⟨S100x1600, .i32⟩
  | .hbm, ⟨25, _⟩ => ⟨S1x128, .f32⟩
  | .hbm, ⟨26, _⟩ => ⟨S1x128, .f32⟩
  | .hbm, ⟨27, _⟩ => ⟨S1x16, .f32⟩
  | .hbm, ⟨28, _⟩ => ⟨S1x128, .f32⟩
  | .hbm, ⟨29, _⟩ => ⟨S1x1, .f32⟩
  | .hbm, ⟨30, _⟩ => ⟨S10000x128, .f32⟩
  | .hbm, ⟨31, _⟩ => ⟨S160000x16, .f32⟩
  | .hbm, ⟨32, _⟩ => ⟨S100x1, .f32⟩
  | .local _ .vmem, ⟨0, _⟩ => ⟨S200x128, .f32⟩
  | .local _ .vmem, ⟨1, _⟩ => ⟨S200x128, .f32⟩
  | .local _ .vmem, ⟨2, _⟩ => ⟨S6400x144, .f32⟩
  | .local _ .vmem, ⟨3, _⟩ => ⟨S6400x144, .f32⟩
  | .local _ .vmem, ⟨4, _⟩ => ⟨S100x3200, .i32⟩
  | .local _ .vmem, ⟨5, _⟩ => ⟨S100x1600, .i32⟩
  | .local _ .vmem, ⟨6, _⟩ => ⟨S100x1600, .i32⟩
  | .local _ .vmem, ⟨7, _⟩ => ⟨S144x128, .f32⟩
  | .local _ .vmem, ⟨8, _⟩ => ⟨S128x128, .f32⟩
  | .local _ .vmem, ⟨9, _⟩ => ⟨S256x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x16, .f32⟩
  | .local _ .vmem, ⟨14, _⟩ => ⟨S1x16, .f32⟩
  | .local _ .vmem, ⟨15, _⟩ => ⟨S128x128, .f32⟩
  | .local _ .vmem, ⟨16, _⟩ => ⟨S1x128, .f32⟩
  | .local _ .vmem, ⟨17, _⟩ => ⟨S128x1, .f32⟩
  | .local _ .vmem, ⟨18, _⟩ => ⟨S1x1, .f32⟩
  | .local _ .vmem, ⟨19, _⟩ => ⟨S200x128, .f32⟩
  | .local _ .vmem, ⟨20, _⟩ => ⟨S200x128, .f32⟩
  | .local _ .vmem, ⟨21, _⟩ => ⟨S3200x16, .f32⟩
  | .local _ .vmem, ⟨22, _⟩ => ⟨S3200x16, .f32⟩
  | .local _ .vmem, ⟨23, _⟩ => ⟨S100x1, .f32⟩
  | .local _ .vmem, ⟨24, _⟩ => ⟨S104x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23

abbrev nD : Nat := 1
abbrev τ : Topo := Topo.v7x

variable {F : FTy → Type} [FloatOps F]

abbrev grid0 : Pipeline.Grid := ⟨1, ![50], ![false]⟩

def k0_off1 (i : grid0.Coords) (c0_i32 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32
  let v6 : Index := Scalar.indexCast v4
  let c0_3 : Index := 0#32
  ![v6.toNat, 0]
def k0_off2 (i : grid0.Coords) (c0_i32 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32
  let v115 : Index := Scalar.indexCast v4
  let c0_46 : Index := 0#32
  ![v115.toNat, 0]
def k0_off3 (i : grid0.Coords) (c0_i32 : BitVec 32) : Fin 2 → Nat :=
  let arg0 : BitVec 32 := BitVec.ofNat 32 (i 0).val
  let c2_i32 : BitVec 32 := 2#32
  let v3 : BitVec 32 := Scalar.muli arg0 c2_i32
  let v4 : BitVec 32 := Scalar.addi v3 c0_i32
  let v153 : Index := Scalar.indexCast v4
  let c0_62 : Index := 0#32
  ![v153.toNat, 0]
def k0_cond1 (i : grid0.Coords) : BitVec 1 :=
  let arg0 : BitVec 32 := BitVec.ofNat 32 (i 0).val
  let c49_i32 : BitVec 32 := 49#32
  let v311 : BitVec 1 := Scalar.cmpi .eq arg0 c49_i32
  let v312 : BitVec 32 := Scalar.extui v311
  let c0_i32_124 : BitVec 32 := 0#32
  let v313 : BitVec 1 := Scalar.cmpi .ne v312 c0_i32_124
  v313

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x3200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x1600 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x1600 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S200x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S3200x16 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S100x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== ReferenceIdeal.lean ====
abbrev S10000x128 : Shape := ⟨2, ![10000, 128]⟩
abbrev S320000x144 : Shape := ⟨2, ![320000, 144]⟩
abbrev S2x320000 : Shape := ⟨2, ![2, 320000]⟩
abbrev S10000 : Shape := ⟨1, ![10000]⟩
abbrev S144x128 : Shape := ⟨2, ![144, 128]⟩
abbrev S128x128 : Shape := ⟨2, ![128, 128]⟩
abbrev S256x128 : Shape := ⟨2, ![256, 128]⟩
abbrev S128 : Shape := ⟨1, ![128]⟩
abbrev S128x16 : Shape := ⟨2, ![128, 16]⟩
abbrev S16 : Shape := ⟨1, ![16]⟩
abbrev S128x1 : Shape := ⟨2, ![128, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x128 : Shape := ⟨2, ![320000, 128]⟩
abbrev S320000x1 : Shape := ⟨2, ![320000, 1]⟩
abbrev S10000x256 : Shape := ⟨2, ![10000, 256]⟩
abbrev S1x128 : Shape := ⟨2, ![1, 128]⟩
abbrev S160000 : Shape := ⟨1, ![160000]⟩
abbrev S160000x1 : Shape := ⟨2, ![160000, 1]⟩
abbrev S160000x128 : Shape := ⟨2, ![160000, 128]⟩
abbrev S160000x16 : Shape := ⟨2, ![160000, 16]⟩
abbrev S1x16 : Shape := ⟨2, ![1, 16]⟩
abbrev S100x128 : Shape := ⟨2, ![100, 128]⟩
abbrev S10000x1 : Shape := ⟨2, ![10000, 1]⟩
abbrev S100x1 : Shape := ⟨2, ![100, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S10000x128, .f32⟩
  | 1 => ⟨S320000x144, .f32⟩
  | 2 => ⟨S2x320000, .i32⟩
  | 3 => ⟨S10000, .i32⟩
  | 4 => ⟨S144x128, .f32⟩
  | 5 => ⟨S128x128, .f32⟩
  | 6 => ⟨S256x128, .f32⟩
  | 7 => ⟨S128, .f32⟩
  | 8 => ⟨S128x128, .f32⟩
  | 9 => ⟨S128, .f32⟩
  | 10 => ⟨S128x16, .f32⟩
  | 11 => ⟨S16, .f32⟩
  | 12 => ⟨S128x128, .f32⟩
  | 13 => ⟨S128, .f32⟩
  | 14 => ⟨S128x1, .f32⟩
  | 15 => ⟨S1, .f32⟩
  | 16 => ⟨S1x320000, .i32⟩
  | 17 => ⟨S320000, .i32⟩
  | 18 => ⟨S1x320000, .i32⟩
  | 19 => ⟨S320000, .i32⟩
  | 20 => ⟨S320000, .i32⟩
  | 21 => ⟨S_, .i32⟩
  | 22 => ⟨S320000, .i32⟩
  | 23 => ⟨S320000, .i32⟩
  | 24 => ⟨S320000x128, .f32⟩
  | 25 => ⟨S_, .f32⟩
  | 26 => ⟨S320000x128, .f32⟩
  | 27 => ⟨S320000x128, .f32⟩
  | 28 => ⟨S_, .f32⟩
  | 29 => ⟨S10000x128, .f32⟩
  | 30 => ⟨S320000x1, .i32⟩
  | 31 => ⟨S10000x128, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x128, .f32⟩
  | 41 => ⟨S_, .i32⟩
  | 42 => ⟨S320000, .i32⟩
  | 43 => ⟨S320000, .i1⟩
  | 44 => ⟨S_, .i32⟩
  | 45 => ⟨S320000, .i32⟩
  | 46 => ⟨S320000, .i32⟩
  | 47 => ⟨S320000, .i32⟩
  | 48 => ⟨S320000x1, .i32⟩
  | 49 => ⟨S320000x128, .f32⟩
  | 50 => ⟨S320000x128, .f32⟩
  | 51 => ⟨S320000x128, .f32⟩
  | 52 => ⟨S320000x128, .f32⟩
  | 53 => ⟨S_, .f32⟩
  | 54 => ⟨S320000x128, .f32⟩
  | 55 => ⟨S320000x128, .f32⟩
  | 56 => ⟨S_, .f32⟩
  | 57 => ⟨S10000x128, .f32⟩
  | 58 => ⟨S320000x1, .i32⟩
  | 59 => ⟨S10000x128, .f32⟩
  | 60 => ⟨S_, .i32⟩
  | 61 => ⟨S320000, .i32⟩
  | 62 => ⟨S320000, .i1⟩
  | 63 => ⟨S_, .i32⟩
  | 64 => ⟨S320000, .i32⟩
  | 65 => ⟨S320000, .i32⟩
  | 66 => ⟨S320000, .i32⟩
  | 67 => ⟨S320000x1, .i32⟩
  | 68 => ⟨S320000x128, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x128, .f32⟩
  | 78 => ⟨S320000x128, .f32⟩
  | 79 => ⟨S320000x128, .f32⟩
  | 80 => ⟨S320000x128, .f32⟩
  | 81 => ⟨S_, .f32⟩
  | 82 => ⟨S320000x128, .f32⟩
  | 83 => ⟨S320000x128, .f32⟩
  | 84 => ⟨S_, .f32⟩
  | 85 => ⟨S10000x128, .f32⟩
  | 86 => ⟨S320000x1, .i32⟩
  | 87 => ⟨S10000x128, .f32⟩
  | 88 => ⟨S10000x256, .f32⟩
  | 89 => ⟨S10000x128, .f32⟩
  | 90 => ⟨S1x128, .f32⟩
  | 91 => ⟨S10000x128, .f32⟩
  | 92 => ⟨S10000x128, .f32⟩
  | 93 => ⟨S_, .f32⟩
  | 94 => ⟨S10000x128, .f32⟩
  | 95 => ⟨S10000x128, .f32⟩
  | 96 => ⟨S10000x128, .f32⟩
  | 97 => ⟨S1x128, .f32⟩
  | 98 => ⟨S10000x128, .f32⟩
  | 99 => ⟨S10000x128, .f32⟩
  | 100 => ⟨S160000, .i32⟩
  | 101 => ⟨S160000, .i32⟩
  | 102 => ⟨S_, .i32⟩
  | 103 => ⟨S160000, .i32⟩
  | 104 => ⟨S160000, .i1⟩
  | 105 => ⟨S_, .i32⟩
  | 106 => ⟨S160000, .i32⟩
  | 107 => ⟨S160000, .i32⟩
  | 108 => ⟨S160000, .i32⟩
  | 109 => ⟨S160000x1, .i32⟩
  | 110 => ⟨S160000x128, .f32⟩
  | 111 => ⟨S_, .i32⟩
  | 112 => ⟨S160000, .i32⟩
  | 113 => ⟨S160000, .i1⟩
  | 114 => ⟨S_, .i32⟩
  | 115 => ⟨S160000, .i32⟩
  | 116 => ⟨S160000, .i32⟩
  | 117 => ⟨S160000, .i32⟩
  | 118 => ⟨S160000x1, .i32⟩
  | 119 => ⟨S160000x128, .f32⟩
  | 120 => ⟨S160000x128, .f32⟩
  | 121 => ⟨S_, .f32⟩
  | 122 => ⟨S160000x128, .f32⟩
  | 123 => ⟨S160000x128, .f32⟩
  | 124 => ⟨S160000x16, .f32⟩
  | 125 => ⟨S1x16, .f32⟩
  | 126 => ⟨S160000x16, .f32⟩
  | 127 => ⟨S160000x16, .f32⟩
  | _ => ⟨S10000x128, .f32⟩

abbrev hbmTy0_1 (i : Nat) : BufTy := match i % 128 with
  | 0 => ⟨S_, .f32⟩
  | 1 => ⟨S100x128, .f32⟩
  | 2 => ⟨S10000x1, .i32⟩
  | 3 => ⟨S100x128, .f32⟩
  | 4 => ⟨S100x128, .f32⟩
  | 5 => ⟨S1x128, .f32⟩
  | 6 => ⟨S100x128, .f32⟩
  | 7 => ⟨S100x128, .f32⟩
  | 8 => ⟨S_, .f32⟩
  | 9 => ⟨S100x128, .f32⟩
  | 10 => ⟨S100x128, .f32⟩
  | 11 => ⟨S100x1, .f32⟩
  | 12 => ⟨S1x1, .f32⟩
  | 13 => ⟨S100x1, .f32⟩
  | 14 => ⟨S100x1, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call0_cst : Ref sig .tc := ⟨.hbm, 25, rfl⟩
abbrev main_call0_v0 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_0 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_2 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_cst : Ref sig .tc := ⟨.hbm, 53, rfl⟩
abbrev main_call1_v0 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_c_6 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_7 : Ref sig .tc := ⟨.hbm, 69, rfl⟩
abbrev main_v40 : Ref sig .tc := ⟨.hbm, 70, rfl⟩
abbrev main_v41 : Ref sig .tc := ⟨.hbm, 71, rfl⟩
abbrev main_c_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call2_cst : Ref sig .tc := ⟨.hbm, 81, rfl⟩
abbrev main_call2_v0 : Ref sig .tc := ⟨.hbm, 82, rfl⟩
abbrev main_v50 : Ref sig .tc := ⟨.hbm, 83, rfl⟩
abbrev main_cst_9 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_cst : Ref sig .tc := ⟨.hbm, 93, rfl⟩
abbrev main_call3_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_10 : Ref sig .tc := ⟨.hbm, 102, rfl⟩
abbrev main_v66 : Ref sig .tc := ⟨.hbm, 103, rfl⟩
abbrev main_v67 : Ref sig .tc := ⟨.hbm, 104, rfl⟩
abbrev main_c_11 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_12 : Ref sig .tc := ⟨.hbm, 111, rfl⟩
abbrev main_v73 : Ref sig .tc := ⟨.hbm, 112, rfl⟩
abbrev main_v74 : Ref sig .tc := ⟨.hbm, 113, rfl⟩
abbrev main_c_13 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_14 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_15 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_call4_cst : Ref sig .tc := ⟨.hbm, 136, rfl⟩
abbrev main_call4_v0 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩

abbrev nD : Nat := 1
abbrev τ : Topo := Topo.v7x

variable {F : FTy → Type} [FloatOps F]
-- ==== Proof.KRuns.lean ====
module

public import proofs.«01_k».proof.Proof.Gen.KernelIdeal.Skeleton
public import proofs.«01_k».proof.Proof.Gen.KernelIdeal.Frame
public import Idealize.ShloMosaic.Lib.WritesUnit
public import Idealize.ShloMosaic.Lib.WholeRead
public import Idealize.ShloMosaic.Lib.WordCmp
public import Idealize.ShloMosaic.Lib.Pointwise.Index

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point is the one at which the branch of the graph head is taken. -/
theorem hcond : ∀ t : Fin cfg0.N, k0_cond1 (grid0.coords t) = 1#1 ↔ t.val = 49 := fun t => by
  have ht : t.val < 50 := Nat.lt_of_lt_of_eq t.isLt N_0
  have e0 : (grid0.coords t 0).val = t.val / 1 % 50 := Pipeline.Grid.coords_val t 0 (by decide) rfl
  have h2 : k0_cond1 (grid0.coords t) = 1#1 ↔ t.val % 50 = 49 := by
    simp only [k0_cond1, e0]; word_cmp
  rw [h2]; omega

/-- The grid's one coordinate at point `t` is `t`. -/
theorem coords_eq (t : Fin cfg0.N) : (grid0.coords t 0).val = t.val := by
  have ht : t.val < 50 := Nat.lt_of_lt_of_eq t.isLt N_0
  have e0 : (grid0.coords t 0).val = t.val / 1 % 50 := Pipeline.Grid.coords_val t 0 (by decide) rfl
  rw [e0]; omega

abbrev ms0_0 (t : Fin cfg0.N) : Memref sig .tc .vmem S200x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6400x144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S100x3200 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S100x1600 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S100x1600 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S144x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x16 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x16 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x128 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x1 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x1 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S200x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S3200x16 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S100x1 .f32 := win0_19.stage (cfg0.slots t 19)
abbrev hs0_19 (t : Fin cfg0.N) : (ms0_19 t).IsWhole := hstage0_19 ((cfg0.slots t 19).cast nbuf0_19)
/-- The scratch buffer in which the molecules' sums are collected. -/
abbrev scM0_0 : Memref sig .tc .vmem S104x128 .f32 := Memref.whole cc0_scratch0

/-- The launch's own resources beside the windows: the scratch at some contents and the generator's register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The seventeen input blocks of one grid point. -/
structure Ins (F : FTy → Type) where
  x0 : Vec F S200x128 .f32
  x1 : Vec F S6400x144 .f32
  x2 : Vec F S100x3200 .i32
  x3 : Vec F S100x1600 .i32
  x4 : Vec F S100x1600 .i32
  x5 : Vec F S144x128 .f32
  x6 : Vec F S128x128 .f32
  x7 : Vec F S256x128 .f32
  x8 : Vec F S1x128 .f32
  x9 : Vec F S128x128 .f32
  x10 : Vec F S1x128 .f32
  x11 : Vec F S128x16 .f32
  x12 : Vec F S1x16 .f32
  x13 : Vec F S128x128 .f32
  x14 : Vec F S1x128 .f32
  x15 : Vec F S128x1 .f32
  x16 : Vec F S1x1 .f32

variable (i : grid0.Coords) (X : Ins F)

/-- The part of an array that a load reads. -/
abbrev part {s : Shape} {e : EltTy} (x : Vec F s e) (B : LoadRect s) : B.shape.Idx → Elt F e := fun j => x (B.idx j)

theorem readAt_part {s : Shape} {e : EltTy} {mr : Memref sig .tc .vmem s e} (h : mr.IsWhole) (x : Vec F s e) (B : LoadRect s) :
    View.readAt (Elt F) mr.view B (h.unread x) = part x B := funext (h.readAt_unread x B)

/-- The row of the destinations of the edges of molecule `m` of the point (and the two edge heads' rows). -/
def dRow0 : Vec F S1x3200 .i32 := part X.x2 (Rect.unit (s := S100x3200) (k0_off1 i 0#32) S1x3200.size (k0_off1_inb i 0)).toLoadRect
def dRow1 : Vec F S1x3200 .i32 := part X.x2 (Rect.unit (s := S100x3200) (k0_off1 i 1#32) S1x3200.size (k0_off1_inb i 1)).toLoadRect
def seRow0 : Vec F S1x1600 .i32 := part X.x3 (Rect.unit (s := S100x1600) (k0_off2 i 0#32) S1x1600.size (k0_off2_inb i 0)).toLoadRect
def seRow1 : Vec F S1x1600 .i32 := part X.x3 (Rect.unit (s := S100x1600) (k0_off2 i 1#32) S1x1600.size (k0_off2_inb i 1)).toLoadRect
def deRow0 : Vec F S1x1600 .i32 := part X.x4 (Rect.unit (s := S100x1600) (k0_off2 i 0#32) S1x1600.size (k0_off2_inb i 0)).toLoadRect
def deRow1 : Vec F S1x1600 .i32 := part X.x4 (Rect.unit (s := S100x1600) (k0_off2 i 1#32) S1x1600.size (k0_off2_inb i 1)).toLoadRect
/-- The atoms of either molecule, and the two halves of the output weight. -/
def fa0 : Vec F S100x128 .f32 := part X.x0 (Rect.unit (s := S200x128) ![0, 0] S100x128.size inb_S200x128_S100x128_0_0).toLoadRect
def fa1 : Vec F S100x128 .f32 := part X.x0 (Rect.unit (s := S200x128) ![100, 0] S100x128.size inb_S200x128_S100x128_100_0).toLoadRect
def woA : Vec F S128x128 .f32 := part X.x7 (Rect.unit (s := S256x128) ![0, 0] S128x128.size inb_S256x128_S128x128_0_0).toLoadRect
def woB : Vec F S128x128 .f32 := part X.x7 (Rect.unit (s := S256x128) ![128, 0] S128x128.size inb_S256x128_S128x128_128_0).toLoadRect
/-- The blocks that are loaded whole. -/
def w1 : Vec F S6400x144 .f32 := part X.x1 (Rect.unit (s := S6400x144) ![0, 0] S6400x144.size inb_S6400x144_S6400x144_0_0).toLoadRect
def w5 : Vec F S144x128 .f32 := part X.x5 (Rect.unit (s := S144x128) ![0, 0] S144x128.size inb_S144x128_S144x128_0_0).toLoadRect
def w6 : Vec F S128x128 .f32 := part X.x6 (Rect.unit (s := S128x128) ![0, 0] S128x128.size inb_S128x128_S128x128_0_0).toLoadRect
def w8 : Vec F S1x128 .f32 := part X.x8 (Rect.unit (s := S1x128) ![0, 0] S1x128.size inb_S1x128_S1x128_0_0).toLoadRect
def w9 : Vec F S128x128 .f32 := part X.x9 (Rect.unit (s := S128x128) ![0, 0] S128x128.size inb_S128x128_S128x128_0_0).toLoadRect
def w10 : Vec F S1x128 .f32 := part X.x10 (Rect.unit (s := S1x128) ![0, 0] S1x128.size inb_S1x128_S1x128_0_0).toLoadRect
def w11 : Vec F S128x16 .f32 := part X.x11 (Rect.unit (s := S128x16) ![0, 0] S128x16.size inb_S128x16_S128x16_0_0).toLoadRect
def w12 : Vec F S1x16 .f32 := part X.x12 (Rect.unit (s := S1x16) ![0, 0] S1x16.size inb_S1x16_S1x16_0_0).toLoadRect
def w13 : Vec F S128x128 .f32 := part X.x13 (Rect.unit (s := S128x128) ![0, 0] S128x128.size inb_S128x128_S128x128_0_0).toLoadRect
def w14 : Vec F S1x128 .f32 := part X.x14 (Rect.unit (s := S1x128) ![0, 0] S1x128.size inb_S1x128_S1x128_0_0).toLoadRect
def w15 : Vec F S128x1 .f32 := part X.x15 (Rect.unit (s := S128x1) ![0, 0] S128x1.size inb_S128x1_S128x1_0_0).toLoadRect
def w16 : Vec F S1x1 .f32 := part X.x16 (Rect.unit (s := S1x1) ![0, 0] S1x1.size inb_S1x1_S1x1_0_0).toLoadRect

end Cert.KernelIdeal.Gen

end
-- ==== Proof.KOuts.lean ====
module

public import proofs.«01_k».proof.Proof.KRuns
public import proofs.«01_k».proof.Proof.Gen.KernelIdeal.Skeleton
public import proofs.«01_k».proof.Proof.Gen.KernelIdeal.Frame
public import Idealize.ShloMosaic.Lib.WritesUnit
public import Idealize.ShloMosaic.Lib.WholeRead
public import Idealize.ShloMosaic.Lib.WordCmp
public import Idealize.ShloMosaic.Lib.Pointwise.Index

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (i : grid0.Coords) (X : Ins F)

/-! ## What one grid point computes from its blocks, molecule by molecule -/

/-- The word of the first atom of molecule 0 (of molecule 1) of the point. -/
def base0 : BitVec 32 := Scalar.muli (Scalar.addi (Scalar.muli (BitVec.ofNat 32 (i 0).val) 2#32) 0#32) 100#32
def base1 : BitVec 32 := Scalar.muli (Scalar.addi (Scalar.muli (BitVec.ofNat 32 (i 0).val) 2#32) 1#32) 100#32

/-- Molecule 0: the messages summed at each atom after the last round. -/
def amsg0 : FVec F S128x128 .f32 :=
  k0_pay10 (k0_pay5 i (dRow0 i X)) (k0_pay6 (w1 X) (w5 X)) (k0_pay8 i (w1 X) (w5 X) (dRow0 i X))
    (k0_pay9 i (w1 X) (w5 X) (dRow0 i X)) (w6 X) (w6 X)
/-- Molecule 0: the hidden state of each atom. -/
def hid0 : FVec F S128x128 .f32 := k0_pay11 (amsg0 i X) (fa0 X) (woA X) (woB X) (w8 X)
/-- Molecule 0: the node head's rows. -/
def node0 : FVec F S100x128 .f32 := k0_pay12 (amsg0 i X) (fa0 X) (woA X) (woB X) (w8 X) (w9 X) (w10 X)
/-- Molecule 0: the edge head's rows. -/
def edge0 : FVec F S1600x16 .f32 :=
  k0_pay17 (k0_pay13 (amsg0 i X) (fa0 X) (woA X) (woB X) (w8 X) (w11 X)) (iota .tc S128x1600 32 [0] iota_S128x1600_d0_w32)
    (k0_pay14 (base0 i) (seRow0 i X)) (k0_pay15 (deRow0 i X)) (k0_pay16 (base0 i)) (w12 X)
/-- Molecule 0: the sum of the hidden states of its atoms. -/
def mol0 : FVec F S1x128 .f32 := k0_pay18 (hid0 i X)

/-- Molecule 1: the hidden states before the bias, the bias row, and the hidden states. -/
def pre1 : FVec F S128x128 .f32 :=
  k0_pay26 (k0_pay20 (base1 i) (k0_pay19 (dRow1 i X))) (k0_pay21 (k0_pay4 (w1 X) (w5 X)))
    (k0_pay22 (k0_pay4 (w1 X) (w5 X)) (base1 i) (k0_pay19 (dRow1 i X)) (w6 X))
    (k0_pay24 (k0_pay4 (w1 X) (w5 X)) (base1 i) (k0_pay19 (dRow1 i X)) (w6 X))
    (k0_pay25 (k0_pay4 (w1 X) (w5 X)) (base1 i) (k0_pay19 (dRow1 i X)) (w6 X))
    (w6 X) (fa1 X) (woA X) (woB X)
def hid1 : FVec F S128x128 .f32 := k0_pay28 (pre1 i X) (k0_pay27 (w8 X))
/-- Molecule 1: the node head's rows. -/
def node1 : FVec F S100x128 .f32 := k0_pay29 (pre1 i X) (k0_pay27 (w8 X)) (w9 X) (w10 X)
/-- Molecule 1: the edge head's rows. -/
def edge1 : FVec F S1600x16 .f32 :=
  k0_pay1 (k0_pay30 (base1 i) (seRow1 i X) (deRow1 i X)) (k0_pay31 (pre1 i X) (k0_pay27 (w8 X)) (w11 X))
    (constant S1600x16 .f32 0x00000000#32) (w12 X)
/-- Molecule 1: the sum of the hidden states of its atoms. -/
def mol1 : FVec F S1x128 .f32 := k0_pay2 (hid1 i X)

/-- The node block of the point: molecule 0's rows above molecule 1's. -/
def nodeOut : Vec F S200x128 .f32 := fun y =>
  if h : (y 0).val < 100 then node0 i X (ix2 ⟨(y 0).val, h⟩ (y 1))
  else node1 i X (ix2 ⟨(y 0).val - 100, by have h2 : (y 0).val < 200 := (y 0).isLt; omega⟩ (y 1))
/-- The edge block of the point: molecule 0's rows above molecule 1's. -/
def edgeOut : Vec F S3200x16 .f32 := fun y =>
  if h : (y 0).val < 1600 then edge0 i X (ix2 ⟨(y 0).val, h⟩ (y 1))
  else edge1 i X (ix2 ⟨(y 0).val - 1600, by have h2 : (y 0).val < 3200 := (y 0).isLt; omega⟩ (y 1))
/-- The scratch after the point: rows `2 i` and `2 i + 1` hold the two molecules' sums. -/
def scrOut (s : Vec F S104x128 .f32) : Vec F S104x128 .f32 := fun y =>
  if (y 0).val = 2 * (i 0).val + 1 then mol1 i X (ix2 0 (y 1))
  else if (y 0).val = 2 * (i 0).val then mol0 i X (ix2 0 (y 1)) else s y
/-- The graph head of the molecules' sums `s`. -/
def graphOut (s : Vec F S104x128 .f32) : Vec F S100x1 .f32 :=
  k0_pay3 (part s (Rect.unit (s := S104x128) ![0, 0] S100x128.size inb_S104x128_S100x128_0_0).toLoadRect) (w13 X) (w14 X) (w15 X) (w16 X)

theorem off3_0 : k0_off3 i 0#32 = ![2 * (i 0).val, 0] := by
  have hi : (i 0).val < 50 := (i 0).isLt
  have e : (Scalar.addi (Scalar.muli (BitVec.ofNat 32 (i 0).val) 2#32) 0#32).toNat = 2 * (i 0).val := by
    simp only [Scalar.addi, Scalar.muli, IntOp.addi, IntOp.muli, BitVec.toNat_add, BitVec.toNat_mul, BitVec.toNat_ofNat]; omega
  funext a
  match a with
  | ⟨0, _⟩ => exact e
  | ⟨1, _⟩ => rfl

theorem off3_1 : k0_off3 i 1#32 = ![2 * (i 0).val + 1, 0] := by
  have hi : (i 0).val < 50 := (i 0).isLt
  have e : (Scalar.addi (Scalar.muli (BitVec.ofNat 32 (i 0).val) 2#32) 1#32).toNat = 2 * (i 0).val + 1 := by
    simp only [Scalar.addi, Scalar.muli, IntOp.addi, IntOp.muli, BitVec.toNat_add, BitVec.toNat_mul, BitVec.toNat_ofNat]; omega
  funext a
  match a with
  | ⟨0, _⟩ => exact e
  | ⟨1, _⟩ => rfl

/-- The two stores of the node block leave it. -/
theorem read_node {mr : Memref sig .tc .vmem S200x128 .f32} (f : mr.view.ty.Contents (Elt F)) :
    mr.view.read (Elt F) (mr.view.writes (Elt F) f
      [⟨Rect.unit (s := S200x128) ![100, 0] S100x128.size inb_S200x128_S100x128_100_0, node1 i X⟩,
       ⟨Rect.unit (s := S200x128) ![0, 0] S100x128.size inb_S200x128_S100x128_0_0, node0 i X⟩]) = nodeOut i X := by
  funext y
  have hy : (y 0).val < 200 := (y 0).isLt
  refine (View.read_writes_cons_rows (o := 100) (W := 100) _ _ _ _ _ _ (by rfl) (by rfl) (by rfl)).trans ?_
  unfold nodeOut
  by_cases h : (y 0).val < 100
  · rw [dif_neg (by omega), dif_pos h]
    refine (View.read_writes_cons_rows (o := 0) (W := 100) _ _ _ _ _ _ (by rfl) (by rfl) (by rfl)).trans ?_
    rw [dif_pos ⟨by omega, by omega⟩]
    congr 1
    funext a; apply Fin.ext
    match a with
    | ⟨0, _⟩ => exact Nat.sub_zero _
    | ⟨1, _⟩ => exact Nat.sub_zero _
  · rw [dif_pos ⟨by omega, by omega⟩, dif_neg h]
    congr 1
    funext a; apply Fin.ext
    match a with
    | ⟨0, _⟩ => rfl
    | ⟨1, _⟩ => exact Nat.sub_zero _

/-- The two stores of the edge block leave it. -/
theorem read_edge {mr : Memref sig .tc .vmem S3200x16 .f32} (f : mr.view.ty.Contents (Elt F)) :
    mr.view.read (Elt F) (mr.view.writes (Elt F) f
      [⟨Rect.unit (s := S3200x16) ![1600, 0] S1600x16.size inb_S3200x16_S1600x16_1600_0, edge1 i X⟩,
       ⟨Rect.unit (s := S3200x16) ![0, 0] S1600x16.size inb_S3200x16_S1600x16_0_0, edge0 i X⟩]) = edgeOut i X := by
  funext y
  have hy : (y 0).val < 3200 := (y 0).isLt
  refine (View.read_writes_cons_rows (o := 1600) (W := 1600) _ _ _ _ _ _ (by rfl) (by rfl) (by rfl)).trans ?_
  unfold edgeOut
  by_cases h : (y 0).val < 1600
  · rw [dif_neg (by omega), dif_pos h]
    refine (View.read_writes_cons_rows (o := 0) (W := 1600) _ _ _ _ _ _ (by rfl) (by rfl) (by rfl)).trans ?_
    rw [dif_pos ⟨by omega, by omega⟩]
    congr 1
    funext a; apply Fin.ext
    match a with
    | ⟨0, _⟩ => exact Nat.sub_zero _
    | ⟨1, _⟩ => exact Nat.sub_zero _
  · rw [dif_pos ⟨by omega, by omega⟩, dif_neg h]
    congr 1
    funext a; apply Fin.ext
    match a with
    | ⟨0, _⟩ => rfl
    | ⟨1, _⟩ => exact Nat.sub_zero _

/-- The two row stores leave the scratch with the molecules' sums in their rows. -/
theorem read_scr {mr : Memref sig .tc .vmem S104x128 .f32} (h : mr.IsWhole) (s : Vec F S104x128 .f32) :
    mr.view.read (Elt F) (mr.view.writes (Elt F) (h.unread s)
      [⟨Rect.unit (s := S104x128) (k0_off3 i 1#32) S1x128.size (k0_off3_inb i 1), mol1 i X⟩,
       ⟨Rect.unit (s := S104x128) (k0_off3 i 0#32) S1x128.size (k0_off3_inb i 0), mol0 i X⟩]) = scrOut i X s := by
  funext y
  refine (View.read_writes_cons_rows (o := 2 * (i 0).val + 1) (W := 1) _ _ _ _ _ _ (off3_1 i) (by rfl) (by rfl)).trans ?_
  unfold scrOut
  by_cases h1 : (y 0).val = 2 * (i 0).val + 1
  · rw [dif_pos ⟨by omega, by omega⟩, if_pos h1]
    congr 1
    funext a; apply Fin.ext
    match a with
    | ⟨0, _⟩ => exact (Nat.sub_eq_zero_of_le h1.le)
    | ⟨1, _⟩ => exact Nat.sub_zero _
  · rw [dif_neg (by omega), if_neg h1]
    refine (View.read_writes_cons_rows (o := 2 * (i 0).val) (W := 1) _ _ _ _ _ _ (off3_0 i) (by rfl) (by rfl)).trans ?_
    by_cases h0 : (y 0).val = 2 * (i 0).val
    · rw [dif_pos ⟨by omega, by omega⟩, if_pos h0]
      congr 1
      funext a; apply Fin.ext
      match a with
      | ⟨0, _⟩ => exact (Nat.sub_eq_zero_of_le h0.le)
      | ⟨1, _⟩ => exact Nat.sub_zero _
    · rw [dif_neg (by omega), if_neg h0]
      exact congrFun (h.read_unread s) y

/-- The store of the graph head, computed from the scratch after the two row stores. -/
theorem read_graph {mr : Memref sig .tc .vmem S100x1 .f32} (f : mr.view.ty.Contents (Elt F))
    {mq : Memref sig .tc .vmem S104x128 .f32} (h : mq.IsWhole) (s : Vec F S104x128 .f32) :
    mr.view.read (Elt F) (mr.view.writes (Elt F) f
      [⟨Rect.unit (s := S100x1) ![0, 0] S100x1.size inb_S100x1_S100x1_0_0,
        k0_pay3 (View.readAt (Elt F) mq.view (Rect.unit (s := S104x128) ![0, 0] S100x128.size inb_S104x128_S100x128_0_0).toLoadRect
          (mq.view.writes (Elt F) (h.unread s)
            [⟨Rect.unit (s := S104x128) (k0_off3 i 1#32) S1x128.size (k0_off3_inb i 1), mol1 i X⟩,
             ⟨Rect.unit (s := S104x128) (k0_off3 i 0#32) S1x128.size (k0_off3_inb i 0), mol0 i X⟩]))
          (w13 X) (w14 X) (w15 X) (w16 X)⟩]) = graphOut X (scrOut i X s) := by
  have hs : View.readAt (Elt F) mq.view (Rect.unit (s := S104x128) ![0, 0] S100x128.size inb_S104x128_S100x128_0_0).toLoadRect
          (mq.view.writes (Elt F) (h.unread s)
            [⟨Rect.unit (s := S104x128) (k0_off3 i 1#32) S1x128.size (k0_off3_inb i 1), mol1 i X⟩,
             ⟨Rect.unit (s := S104x128) (k0_off3 i 0#32) S1x128.size (k0_off3_inb i 0), mol0 i X⟩])
      = part (scrOut i X s) (Rect.unit (s := S104x128) ![0, 0] S100x128.size inb_S104x128_S100x128_0_0).toLoadRect :=
    funext fun j => congrFun (read_scr i X h s) _
  rw [hs]
  funext y
  have hy : (y 0).val < 100 := (y 0).isLt
  refine (View.read_writes_cons_rows (o := 0) (W := 100) _ _ _ _ _ _ (by rfl) (by rfl) (by rfl)).trans ?_
  rw [dif_pos ⟨by omega, by omega⟩]
  unfold graphOut
  congr 1
  funext a; apply Fin.ext
  match a with
  | ⟨0, _⟩ => exact Nat.sub_zero _
  | ⟨1, _⟩ => exact Nat.sub_zero _

end Cert.KernelIdeal.Gen

end
-- ==== Proof.KRunA.lean ====
module

public import proofs.«01_k».proof.Proof.KOuts
public import proofs.«01_k».proof.Proof.Gen.KernelIdeal.Skeleton
public import proofs.«01_k».proof.Proof.Gen.KernelIdeal.Frame
public import Idealize.ShloMosaic.Lib.WritesUnit
public import Idealize.ShloMosaic.Lib.WholeRead
public import Idealize.ShloMosaic.Lib.WordCmp
public import Idealize.ShloMosaic.Lib.Pointwise.Index

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One run of the body at a point that is not the last: the inputs are kept, the node and edge blocks hold the point's values, the scratch gains the two molecules' sums, and the graph block is left as it was. -/
theorem kernelRun0_A (c : Dev nD) (i : grid0.Coords) (arg1 : Memref sig .tc .vmem S200x128 .f32) (harg1 : arg1.IsWhole) (arg2 : Memref sig .tc .vmem S6400x144 .f32) (harg2 : arg2.IsWhole) (arg3 : Memref sig .tc .vmem S100x3200 .i32) (harg3 : arg3.IsWhole) (arg4 : Memref sig .tc .vmem S100x1600 .i32) (harg4 : arg4.IsWhole) (arg5 : Memref sig .tc .vmem S100x1600 .i32) (harg5 : arg5.IsWhole) (arg6 : Memref sig .tc .vmem S144x128 .f32) (harg6 : arg6.IsWhole) (arg7 : Memref sig .tc .vmem S128x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S200x128 .f32) (harg18 : arg18.IsWhole) (arg19 : Memref sig .tc .vmem S3200x16 .f32) (harg19 : arg19.IsWhole) (arg20 : Memref sig .tc .vmem S100x1 .f32) (harg20 : arg20.IsWhole) (arg21 : Memref sig .tc .vmem S104x128 .f32) (harg21 : arg21.IsWhole) (hc0 : ¬k0_cond1 i = 1#1)
    (x0 : Vec F S200x128 .f32) (x1 : Vec F S6400x144 .f32) (x2 : Vec F S100x3200 .i32) (x3 : Vec F S100x1600 .i32) (x4 : Vec F S100x1600 .i32) (x5 : Vec F S144x128 .f32) (x6 : Vec F S128x128 .f32) (x7 : Vec F S256x128 .f32) (x8 : Vec F S1x128 .f32) (x9 : Vec F S128x128 .f32) (x10 : Vec F S1x128 .f32) (x11 : Vec F S128x16 .f32) (x12 : Vec F S1x16 .f32) (x13 : Vec F S128x128 .f32) (x14 : Vec F S1x128 .f32) (x15 : Vec F S128x1 .f32) (x16 : Vec F S1x1 .f32) (s : Vec F S104x128 .f32) (g : Vec F S100x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ owns (c : Thread nD τ) arg20 fullShare g ∗ owns (c : Thread nD τ) arg21 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (nodeOut i ⟨x0, x1, x2, x3, x4, x5, x6, x7, x8, x9, x10, x11, x12, x13, x14, x15, x16⟩) ∗ owns (c : Thread nD τ) arg19 fullShare (edgeOut i ⟨x0, x1, x2, x3, x4, x5, x6, x7, x8, x9, x10, x11, x12, x13, x14, x15, x16⟩) ∗ owns (c : Thread nD τ) arg20 fullShare g ∗ owns (c : Thread nD τ) arg21 fullShare (scrOut i ⟨x0, x1, x2, x3, x4, x5, x6, x7, x8, x9, x10, x11, x12, x13, x14, x15, x16⟩ s)) -∗ K ⟨⟩))
          ⊢ wp frame (wpE (defs₀ (F := F)) Variants.none c none) E (cc0__mpn_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0__mpn_block_eq_skeleton]; unfold cc0__mpn_block_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%f19, %hf19, H19⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hf19; obtain rfl := harg21.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; swap; · iexact H17
      ipureintro
      refine Eq.trans ?_ (read_node i (⟨x0, x1, x2, x3, x4, x5, x6, x7, x8, x9, x10, x11, x12, x13, x14, x15, x16⟩ : Ins F) f17)
      (try delta kernelRun0_A.sl.r_30); (try delta kernelRun0_A.sl.r_29); (try delta kernelRun0_A.sl.r_28); (try delta kernelRun0_A.sl.r_27); (try delta kernelRun0_A.sl.r_26); (try delta kernelRun0_A.sl.r_25); (try delta kernelRun0_A.sl.r_24); (try delta kernelRun0_A.sl.r_23); (try delta kernelRun0_A.sl.r_22); (try delta kernelRun0_A.sl.r_21); (try delta kernelRun0_A.sl.r_20); (try delta kernelRun0_A.sl.r_19); (try delta kernelRun0_A.sl.r_18); (try delta kernelRun0_A.sl.r_17); (try delta kernelRun0_A.sl.r_16); (try delta kernelRun0_A.sl.r_15); (try delta kernelRun0_A.sl.r_14); (try delta kernelRun0_A.sl.r_13); (try delta kernelRun0_A.sl.r_12); (try delta kernelRun0_A.sl.r_11); (try delta kernelRun0_A.sl.r_10); (try delta kernelRun0_A.sl.r_9); (try delta kernelRun0_A.sl.r_8); (try delta kernelRun0_A.sl.r_7); (try delta kernelRun0_A.sl.r_6); (try delta kernelRun0_A.sl.r_5); (try delta kernelRun0_A.sl.r_4); (try delta kernelRun0_A.sl.r_3); (try delta kernelRun0_A.sl.r_2); (try delta kernelRun0_A.sl.r_1); (try delta kernelRun0_A.sl.r_0); (try delta kernelRun0_A.sl.r); (try delta kernelRun0_A.sl.cst_114); (try delta kernelRun0_A.sl.v114); (try delta kernelRun0_A.sl.v159); (try delta kernelRun0_A.sl.v158); (try delta kernelRun0_A.sl.v157); (try delta kernelRun0_A.sl.v5); (try delta kernelRun0_A.sl.v4); (try delta kernelRun0_A.sl.v3); (try delta kernelRun0_A.sl.arg0)
      simp only [readAt_part, dRow0, dRow1, seRow0, seRow1, deRow0, deRow1, fa0, fa1, woA, woB, w1, w5, w6, w8, w9, w10, w11, w12, w13, w14, w15, w16, amsg0, hid0, node0, edge0, mol0, pre1, hid1, node1, edge1, mol1, base0, base1]
    isplitl [H18]
    · iexists _; isplitr; swap; · iexact H18
      ipureintro
      refine Eq.trans ?_ (read_edge i (⟨x0, x1, x2, x3, x4, x5, x6, x7, x8, x9, x10, x11, x12, x13, x14, x15, x16⟩ : Ins F) f18)
      (try delta kernelRun0_A.sl.r_30); (try delta kernelRun0_A.sl.r_29); (try delta kernelRun0_A.sl.r_28); (try delta kernelRun0_A.sl.r_27); (try delta kernelRun0_A.sl.r_26); (try delta kernelRun0_A.sl.r_25); (try delta kernelRun0_A.sl.r_24); (try delta kernelRun0_A.sl.r_23); (try delta kernelRun0_A.sl.r_22); (try delta kernelRun0_A.sl.r_21); (try delta kernelRun0_A.sl.r_20); (try delta kernelRun0_A.sl.r_19); (try delta kernelRun0_A.sl.r_18); (try delta kernelRun0_A.sl.r_17); (try delta kernelRun0_A.sl.r_16); (try delta kernelRun0_A.sl.r_15); (try delta kernelRun0_A.sl.r_14); (try delta kernelRun0_A.sl.r_13); (try delta kernelRun0_A.sl.r_12); (try delta kernelRun0_A.sl.r_11); (try delta kernelRun0_A.sl.r_10); (try delta kernelRun0_A.sl.r_9); (try delta kernelRun0_A.sl.r_8); (try delta kernelRun0_A.sl.r_7); (try delta kernelRun0_A.sl.r_6); (try delta kernelRun0_A.sl.r_5); (try delta kernelRun0_A.sl.r_4); (try delta kernelRun0_A.sl.r_3); (try delta kernelRun0_A.sl.r_2); (try delta kernelRun0_A.sl.r_1); (try delta kernelRun0_A.sl.r_0); (try delta kernelRun0_A.sl.r); (try delta kernelRun0_A.sl.cst_114); (try delta kernelRun0_A.sl.v114); (try delta kernelRun0_A.sl.v159); (try delta kernelRun0_A.sl.v158); (try delta kernelRun0_A.sl.v157); (try delta kernelRun0_A.sl.v5); (try delta kernelRun0_A.sl.v4); (try delta kernelRun0_A.sl.v3); (try delta kernelRun0_A.sl.arg0)
      simp only [readAt_part, dRow0, dRow1, seRow0, seRow1, deRow0, deRow1, fa0, fa1, woA, woB, w1, w5, w6, w8, w9, w10, w11, w12, w13, w14, w15, w16, amsg0, hid0, node0, edge0, mol0, pre1, hid1, node1, edge1, mol1, base0, base1]
    isplitl [H19]
    · iexists _; isplitr; swap; · iexact H19
      ipureintro; exact harg20.read_unread _
    · iexists _; isplitr; swap; · iexact HS0
      ipureintro
      refine Eq.trans ?_ (read_scr i (⟨x0, x1, x2, x3, x4, x5, x6, x7, x8, x9, x10, x11, x12, x13, x14, x15, x16⟩ : Ins F) harg21 s)
      (try delta kernelRun0_A.sl.r_30); (try delta kernelRun0_A.sl.r_29); (try delta kernelRun0_A.sl.r_28); (try delta kernelRun0_A.sl.r_27); (try delta kernelRun0_A.sl.r_26); (try delta kernelRun0_A.sl.r_25); (try delta kernelRun0_A.sl.r_24); (try delta kernelRun0_A.sl.r_23); (try delta kernelRun0_A.sl.r_22); (try delta kernelRun0_A.sl.r_21); (try delta kernelRun0_A.sl.r_20); (try delta kernelRun0_A.sl.r_19); (try delta kernelRun0_A.sl.r_18); (try delta kernelRun0_A.sl.r_17); (try delta kernelRun0_A.sl.r_16); (try delta kernelRun0_A.sl.r_15); (try delta kernelRun0_A.sl.r_14); (try delta kernelRun0_A.sl.r_13); (try delta kernelRun0_A.sl.r_12); (try delta kernelRun0_A.sl.r_11); (try delta kernelRun0_A.sl.r_10); (try delta kernelRun0_A.sl.r_9); (try delta kernelRun0_A.sl.r_8); (try delta kernelRun0_A.sl.r_7); (try delta kernelRun0_A.sl.r_6); (try delta kernelRun0_A.sl.r_5); (try delta kernelRun0_A.sl.r_4); (try delta kernelRun0_A.sl.r_3); (try delta kernelRun0_A.sl.r_2); (try delta kernelRun0_A.sl.r_1); (try delta kernelRun0_A.sl.r_0); (try delta kernelRun0_A.sl.r); (try delta kernelRun0_A.sl.cst_114); (try delta kernelRun0_A.sl.v114); (try delta kernelRun0_A.sl.v159); (try delta kernelRun0_A.sl.v158); (try delta kernelRun0_A.sl.v157); (try delta kernelRun0_A.sl.v5); (try delta kernelRun0_A.sl.v4); (try delta kernelRun0_A.sl.v3); (try delta kernelRun0_A.sl.arg0)
      simp only [readAt_part, dRow0, dRow1, seRow0, seRow1, deRow0, deRow1, fa0, fa1, woA, woB, w1, w5, w6, w8, w9, w10, w11, w12, w13, w14, w15, w16, amsg0, hid0, node0, edge0, mol0, pre1, hid1, node1, edge1, mol1, base0, base1]

end Cert.KernelIdeal.Gen

end
-- ==== Proof.KRunB.lean ====
module

public import proofs.«01_k».proof.Proof.KOuts
public import proofs.«01_k».proof.Proof.Gen.KernelIdeal.Skeleton
public import proofs.«01_k».proof.Proof.Gen.KernelIdeal.Frame
public import Idealize.ShloMosaic.Lib.WritesUnit
public import Idealize.ShloMosaic.Lib.WholeRead
public import Idealize.ShloMosaic.Lib.WordCmp
public import Idealize.ShloMosaic.Lib.Pointwise.Index

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- One run of the body at the last point: the inputs are kept, the node and edge blocks hold the point's values, the scratch gains the two molecules' sums, and the graph block holds the graph head. -/
theorem kernelRun0_B (c : Dev nD) (i : grid0.Coords) (arg1 : Memref sig .tc .vmem S200x128 .f32) (harg1 : arg1.IsWhole) (arg2 : Memref sig .tc .vmem S6400x144 .f32) (harg2 : arg2.IsWhole) (arg3 : Memref sig .tc .vmem S100x3200 .i32) (harg3 : arg3.IsWhole) (arg4 : Memref sig .tc .vmem S100x1600 .i32) (harg4 : arg4.IsWhole) (arg5 : Memref sig .tc .vmem S100x1600 .i32) (harg5 : arg5.IsWhole) (arg6 : Memref sig .tc .vmem S144x128 .f32) (harg6 : arg6.IsWhole) (arg7 : Memref sig .tc .vmem S128x128 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x16 .f32) (harg12 : arg12.IsWhole) (arg13 : Memref sig .tc .vmem S1x16 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x1 .f32) (harg16 : arg16.IsWhole) (arg17 : Memref sig .tc .vmem S1x1 .f32) (harg17 : arg17.IsWhole) (arg18 : Memref sig .tc .vmem S200x128 .f32) (harg18 : arg18.IsWhole) (arg19 : Memref sig .tc .vmem S3200x16 .f32) (harg19 : arg19.IsWhole) (arg20 : Memref sig .tc .vmem S100x1 .f32) (harg20 : arg20.IsWhole) (arg21 : Memref sig .tc .vmem S104x128 .f32) (harg21 : arg21.IsWhole) (hc0 : k0_cond1 i = 1#1)
    (x0 : Vec F S200x128 .f32) (x1 : Vec F S6400x144 .f32) (x2 : Vec F S100x3200 .i32) (x3 : Vec F S100x1600 .i32) (x4 : Vec F S100x1600 .i32) (x5 : Vec F S144x128 .f32) (x6 : Vec F S128x128 .f32) (x7 : Vec F S256x128 .f32) (x8 : Vec F S1x128 .f32) (x9 : Vec F S128x128 .f32) (x10 : Vec F S1x128 .f32) (x11 : Vec F S128x16 .f32) (x12 : Vec F S1x16 .f32) (x13 : Vec F S128x128 .f32) (x14 : Vec F S1x128 .f32) (x15 : Vec F S128x1 .f32) (x16 : Vec F S1x1 .f32) (s : Vec F S104x128 .f32) (g : Vec F S100x1 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ owns (c : Thread nD τ) arg20 fullShare g ∗ owns (c : Thread nD τ) arg21 fullShare s
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (nodeOut i ⟨x0, x1, x2, x3, x4, x5, x6, x7, x8, x9, x10, x11, x12, x13, x14, x15, x16⟩) ∗ owns (c : Thread nD τ) arg19 fullShare (edgeOut i ⟨x0, x1, x2, x3, x4, x5, x6, x7, x8, x9, x10, x11, x12, x13, x14, x15, x16⟩) ∗ owns (c : Thread nD τ) arg20 fullShare (graphOut ⟨x0, x1, x2, x3, x4, x5, x6, x7, x8, x9, x10, x11, x12, x13, x14, x15, x16⟩ (scrOut i ⟨x0, x1, x2, x3, x4, x5, x6, x7, x8, x9, x10, x11, x12, x13, x14, x15, x16⟩ s)) ∗ owns (c : Thread nD τ) arg21 fullShare (scrOut i ⟨x0, x1, x2, x3, x4, x5, x6, x7, x8, x9, x10, x11, x12, x13, x14, x15, x16⟩ s)) -∗ K ⟨⟩))
          ⊢ wp frame (wpE (defs₀ (F := F)) Variants.none c none) E (cc0__mpn_block i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
    intro E K
    simp only [cc0__mpn_block_eq_skeleton]; unfold cc0__mpn_block_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%f19, %hf19, H19⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hf19; obtain rfl := harg21.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; swap; · iexact H17
      ipureintro
      refine Eq.trans ?_ (read_node i (⟨x0, x1, x2, x3, x4, x5, x6, x7, x8, x9, x10, x11, x12, x13, x14, x15, x16⟩ : Ins F) f17)
      (try delta kernelRun0_B.sl.v314); (try delta kernelRun0_B.sl.HS0_6); (try delta kernelRun0_B.sl.HS0_5); (try delta kernelRun0_B.sl.HS0_4); (try delta kernelRun0_B.sl.HS0_3); (try delta kernelRun0_B.sl.HS0_2); (try delta kernelRun0_B.sl.HS0_1); (try delta kernelRun0_B.sl.HS0_0); (try delta kernelRun0_B.sl.H19_3); (try delta kernelRun0_B.sl.H19_2); (try delta kernelRun0_B.sl.H19_1); (try delta kernelRun0_B.sl.H19_0); (try delta kernelRun0_B.sl.r_30); (try delta kernelRun0_B.sl.r_29); (try delta kernelRun0_B.sl.r_28); (try delta kernelRun0_B.sl.r_27); (try delta kernelRun0_B.sl.r_26); (try delta kernelRun0_B.sl.r_25); (try delta kernelRun0_B.sl.r_24); (try delta kernelRun0_B.sl.r_23); (try delta kernelRun0_B.sl.r_22); (try delta kernelRun0_B.sl.r_21); (try delta kernelRun0_B.sl.r_20); (try delta kernelRun0_B.sl.r_19); (try delta kernelRun0_B.sl.r_18); (try delta kernelRun0_B.sl.r_17); (try delta kernelRun0_B.sl.r_16); (try delta kernelRun0_B.sl.r_15); (try delta kernelRun0_B.sl.r_14); (try delta kernelRun0_B.sl.r_13); (try delta kernelRun0_B.sl.r_12); (try delta kernelRun0_B.sl.r_11); (try delta kernelRun0_B.sl.r_10); (try delta kernelRun0_B.sl.r_9); (try delta kernelRun0_B.sl.r_8); (try delta kernelRun0_B.sl.r_7); (try delta kernelRun0_B.sl.r_6); (try delta kernelRun0_B.sl.r_5); (try delta kernelRun0_B.sl.r_4); (try delta kernelRun0_B.sl.r_3); (try delta kernelRun0_B.sl.r_2); (try delta kernelRun0_B.sl.r_1); (try delta kernelRun0_B.sl.r_0); (try delta kernelRun0_B.sl.r); (try delta kernelRun0_B.sl.cst_114); (try delta kernelRun0_B.sl.v114); (try delta kernelRun0_B.sl.v159); (try delta kernelRun0_B.sl.v158); (try delta kernelRun0_B.sl.v157); (try delta kernelRun0_B.sl.v5); (try delta kernelRun0_B.sl.v4); (try delta kernelRun0_B.sl.v3); (try delta kernelRun0_B.sl.arg0)
      simp only [readAt_part, dRow0, dRow1, seRow0, seRow1, deRow0, deRow1, fa0, fa1, woA, woB, w1, w5, w6, w8, w9, w10, w11, w12, w13, w14, w15, w16, amsg0, hid0, node0, edge0, mol0, pre1, hid1, node1, edge1, mol1, base0, base1]
    isplitl [H18]
    · iexists _; isplitr; swap; · iexact H18
      ipureintro
      refine Eq.trans ?_ (read_edge i (⟨x0, x1, x2, x3, x4, x5, x6, x7, x8, x9, x10, x11, x12, x13, x14, x15, x16⟩ : Ins F) f18)
      (try delta kernelRun0_B.sl.v314); (try delta kernelRun0_B.sl.HS0_6); (try delta kernelRun0_B.sl.HS0_5); (try delta kernelRun0_B.sl.HS0_4); (try delta kernelRun0_B.sl.HS0_3); (try delta kernelRun0_B.sl.HS0_2); (try delta kernelRun0_B.sl.HS0_1); (try delta kernelRun0_B.sl.HS0_0); (try delta kernelRun0_B.sl.H19_3); (try delta kernelRun0_B.sl.H19_2); (try delta kernelRun0_B.sl.H19_1); (try delta kernelRun0_B.sl.H19_0); (try delta kernelRun0_B.sl.r_30); (try delta kernelRun0_B.sl.r_29); (try delta kernelRun0_B.sl.r_28); (try delta kernelRun0_B.sl.r_27); (try delta kernelRun0_B.sl.r_26); (try delta kernelRun0_B.sl.r_25); (try delta kernelRun0_B.sl.r_24); (try delta kernelRun0_B.sl.r_23); (try delta kernelRun0_B.sl.r_22); (try delta kernelRun0_B.sl.r_21); (try delta kernelRun0_B.sl.r_20); (try delta kernelRun0_B.sl.r_19); (try delta kernelRun0_B.sl.r_18); (try delta kernelRun0_B.sl.r_17); (try delta kernelRun0_B.sl.r_16); (try delta kernelRun0_B.sl.r_15); (try delta kernelRun0_B.sl.r_14); (try delta kernelRun0_B.sl.r_13); (try delta kernelRun0_B.sl.r_12); (try delta kernelRun0_B.sl.r_11); (try delta kernelRun0_B.sl.r_10); (try delta kernelRun0_B.sl.r_9); (try delta kernelRun0_B.sl.r_8); (try delta kernelRun0_B.sl.r_7); (try delta kernelRun0_B.sl.r_6); (try delta kernelRun0_B.sl.r_5); (try delta kernelRun0_B.sl.r_4); (try delta kernelRun0_B.sl.r_3); (try delta kernelRun0_B.sl.r_2); (try delta kernelRun0_B.sl.r_1); (try delta kernelRun0_B.sl.r_0); (try delta kernelRun0_B.sl.r); (try delta kernelRun0_B.sl.cst_114); (try delta kernelRun0_B.sl.v114); (try delta kernelRun0_B.sl.v159); (try delta kernelRun0_B.sl.v158); (try delta kernelRun0_B.sl.v157); (try delta kernelRun0_B.sl.v5); (try delta kernelRun0_B.sl.v4); (try delta kernelRun0_B.sl.v3); (try delta kernelRun0_B.sl.arg0)
      simp only [readAt_part, dRow0, dRow1, seRow0, seRow1, deRow0, deRow1, fa0, fa1, woA, woB, w1, w5, w6, w8, w9, w10, w11, w12, w13, w14, w15, w16, amsg0, hid0, node0, edge0, mol0, pre1, hid1, node1, edge1, mol1, base0, base1]
    isplitl [H19]
    · iexists _; isplitr; swap; · iexact H19
      ipureintro
      refine Eq.trans ?_ (read_graph i (⟨x0, x1, x2, x3, x4, x5, x6, x7, x8, x9, x10, x11, x12, x13, x14, x15, x16⟩ : Ins F) (harg20.unread g) harg21 s)
      (try delta kernelRun0_B.sl.v314); (try delta kernelRun0_B.sl.HS0_6); (try delta kernelRun0_B.sl.HS0_5); (try delta kernelRun0_B.sl.HS0_4); (try delta kernelRun0_B.sl.HS0_3); (try delta kernelRun0_B.sl.HS0_2); (try delta kernelRun0_B.sl.HS0_1); (try delta kernelRun0_B.sl.HS0_0); (try delta kernelRun0_B.sl.H19_3); (try delta kernelRun0_B.sl.H19_2); (try delta kernelRun0_B.sl.H19_1); (try delta kernelRun0_B.sl.H19_0); (try delta kernelRun0_B.sl.r_30); (try delta kernelRun0_B.sl.r_29); (try delta kernelRun0_B.sl.r_28); (try delta kernelRun0_B.sl.r_27); (try delta kernelRun0_B.sl.r_26); (try delta kernelRun0_B.sl.r_25); (try delta kernelRun0_B.sl.r_24); (try delta kernelRun0_B.sl.r_23); (try delta kernelRun0_B.sl.r_22); (try delta kernelRun0_B.sl.r_21); (try delta kernelRun0_B.sl.r_20); (try delta kernelRun0_B.sl.r_19); (try delta kernelRun0_B.sl.r_18); (try delta kernelRun0_B.sl.r_17); (try delta kernelRun0_B.sl.r_16); (try delta kernelRun0_B.sl.r_15); (try delta kernelRun0_B.sl.r_14); (try delta kernelRun0_B.sl.r_13); (try delta kernelRun0_B.sl.r_12); (try delta kernelRun0_B.sl.r_11); (try delta kernelRun0_B.sl.r_10); (try delta kernelRun0_B.sl.r_9); (try delta kernelRun0_B.sl.r_8); (try delta kernelRun0_B.sl.r_7); (try delta kernelRun0_B.sl.r_6); (try delta kernelRun0_B.sl.r_5); (try delta kernelRun0_B.sl.r_4); (try delta kernelRun0_B.sl.r_3); (try delta kernelRun0_B.sl.r_2); (try delta kernelRun0_B.sl.r_1); (try delta kernelRun0_B.sl.r_0); (try delta kernelRun0_B.sl.r); (try delta kernelRun0_B.sl.cst_114); (try delta kernelRun0_B.sl.v114); (try delta kernelRun0_B.sl.v159); (try delta kernelRun0_B.sl.v158); (try delta kernelRun0_B.sl.v157); (try delta kernelRun0_B.sl.v5); (try delta kernelRun0_B.sl.v4); (try delta kernelRun0_B.sl.v3); (try delta kernelRun0_B.sl.arg0)
      simp only [readAt_part, dRow0, dRow1, seRow0, seRow1, deRow0, deRow1, fa0, fa1, woA, woB, w1, w5, w6, w8, w9, w10, w11, w12, w13, w14, w15, w16, amsg0, hid0, node0, edge0, mol0, pre1, hid1, node1, edge1, mol1, base0, base1]
    · iexists _; isplitr; swap; · iexact HS0
      ipureintro
      refine Eq.trans ?_ (read_scr i (⟨x0, x1, x2, x3, x4, x5, x6, x7, x8, x9, x10, x11, x12, x13, x14, x15, x16⟩ : Ins F) harg21 s)
      (try delta kernelRun0_B.sl.v314); (try delta kernelRun0_B.sl.HS0_6); (try delta kernelRun0_B.sl.HS0_5); (try delta kernelRun0_B.sl.HS0_4); (try delta kernelRun0_B.sl.HS0_3); (try delta kernelRun0_B.sl.HS0_2); (try delta kernelRun0_B.sl.HS0_1); (try delta kernelRun0_B.sl.HS0_0); (try delta kernelRun0_B.sl.H19_3); (try delta kernelRun0_B.sl.H19_2); (try delta kernelRun0_B.sl.H19_1); (try delta kernelRun0_B.sl.H19_0); (try delta kernelRun0_B.sl.r_30); (try delta kernelRun0_B.sl.r_29); (try delta kernelRun0_B.sl.r_28); (try delta kernelRun0_B.sl.r_27); (try delta kernelRun0_B.sl.r_26); (try delta kernelRun0_B.sl.r_25); (try delta kernelRun0_B.sl.r_24); (try delta kernelRun0_B.sl.r_23); (try delta kernelRun0_B.sl.r_22); (try delta kernelRun0_B.sl.r_21); (try delta kernelRun0_B.sl.r_20); (try delta kernelRun0_B.sl.r_19); (try delta kernelRun0_B.sl.r_18); (try delta kernelRun0_B.sl.r_17); (try delta kernelRun0_B.sl.r_16); (try delta kernelRun0_B.sl.r_15); (try delta kernelRun0_B.sl.r_14); (try delta kernelRun0_B.sl.r_13); (try delta kernelRun0_B.sl.r_12); (try delta kernelRun0_B.sl.r_11); (try delta kernelRun0_B.sl.r_10); (try delta kernelRun0_B.sl.r_9); (try delta kernelRun0_B.sl.r_8); (try delta kernelRun0_B.sl.r_7); (try delta kernelRun0_B.sl.r_6); (try delta kernelRun0_B.sl.r_5); (try delta kernelRun0_B.sl.r_4); (try delta kernelRun0_B.sl.r_3); (try delta kernelRun0_B.sl.r_2); (try delta kernelRun0_B.sl.r_1); (try delta kernelRun0_B.sl.r_0); (try delta kernelRun0_B.sl.r); (try delta kernelRun0_B.sl.cst_114); (try delta kernelRun0_B.sl.v114); (try delta kernelRun0_B.sl.v159); (try delta kernelRun0_B.sl.v158); (try delta kernelRun0_B.sl.v157); (try delta kernelRun0_B.sl.v5); (try delta kernelRun0_B.sl.v4); (try delta kernelRun0_B.sl.v3); (try delta kernelRun0_B.sl.arg0)
      simp only [readAt_part, dRow0, dRow1, seRow0, seRow1, deRow0, deRow1, fa0, fa1, woA, woB, w1, w5, w6, w8, w9, w10, w11, w12, w13, w14, w15, w16, amsg0, hid0, node0, edge0, mol0, pre1, hid1, node1, edge1, mol1, base0, base1]

end Cert.KernelIdeal.Gen

end
-- ==== Proof.KFrame.lean ====
module

public import proofs.«01_k».proof.Proof.KRunA
public import proofs.«01_k».proof.Proof.KRunB
public import proofs.«01_k».proof.Proof.Gen.KernelIdeal.Skeleton
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.WritesUnit
public import Idealize.ShloMosaic.Lib.WholeRead
public import Idealize.ShloMosaic.Lib.WordCmp
public import Idealize.ShloMosaic.Lib.Pointwise.Index

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The input blocks of point `t`. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- The fifty points by number. -/
def pt (n : ℕ) : Fin cfg0.N := ⟨n % 50, lt_of_lt_of_eq (Nat.mod_lt _ (by decide)) N_0.symm⟩

/-- The rows of the scratch after the whole grid: row `r` is the sum of molecule `r`, which is molecule `r % 2` of point `r / 2`. -/
def molRows (c : Dev nD) : Vec F S104x128 .f32 := fun y =>
  if (y 0).val % 2 = 1 then mol1 (grid0.coords (pt ((y 0).val / 2))) (insAt m c (pt ((y 0).val / 2))) (ix2 0 (y 1))
  else mol0 (grid0.coords (pt ((y 0).val / 2))) (insAt m c (pt ((y 0).val / 2))) (ix2 0 (y 1))

/-- One point's row stores extend the rows known so far by two. -/
theorem scrOut_rows (c : Dev nD) (t : Fin cfg0.N) (s : Vec F S104x128 .f32)
    (hs : ∀ y : S104x128.Idx, (y 0).val < 2 * t.val → s y = molRows m c y) :
    ∀ y : S104x128.Idx, (y 0).val < 2 * (t.val + 1) → scrOut (grid0.coords t) (insAt m c t) s y = molRows m c y := by
  intro y hy
  have ht : t.val < 50 := lt_of_lt_of_eq t.isLt N_0
  have hc := coords_eq t
  unfold scrOut
  rw [hc]
  by_cases h1 : (y 0).val = 2 * t.val + 1
  · have hp : pt ((y 0).val / 2) = t := Fin.ext (by show (y 0).val / 2 % 50 = t.val; omega)
    rw [if_pos h1]; unfold molRows; rw [if_pos (by omega), hp]
  · rw [if_neg h1]
    by_cases h0 : (y 0).val = 2 * t.val
    · have hp : pt ((y 0).val / 2) = t := Fin.ext (by show (y 0).val / 2 % 50 = t.val; omega)
      rw [if_pos h0]; unfold molRows; rw [if_neg (by omega), hp]
    · rw [if_neg h0]; exact hs y (by omega)

/-- The graph head reads only the hundred rows of the molecules. -/
theorem graphOut_congr (X : Ins F) (s s' : Vec F S104x128 .f32) (h : ∀ y : S104x128.Idx, (y 0).val < 100 → s y = s' y) :
    graphOut X s = graphOut X s' := by
  unfold graphOut
  have e : part s (Rect.unit (s := S104x128) ![0, 0] S100x128.size inb_S104x128_S100x128_0_0).toLoadRect
      = part s' (Rect.unit (s := S104x128) ![0, 0] S100x128.size inb_S104x128_S100x128_0_0).toLoadRect := by
    funext j
    refine h _ ?_
    have hj : (j 0).val < 100 := (j 0).isLt
    first
      | (show 0 + 1 * (j 0).val < 100; omega)
      | (show 0 + (j 0).val < 100; omega)
      | (show (j 0).val < 100; omega)
  rw [e]

/-- The proof data: each input's buffer at its block, the node and edge blocks at the point's values, the graph block at
    the head of all molecules' sums; between points the scratch holds the sums of the molecules passed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => nodeOut (grid0.coords t) (insAt m c t)
    | ⟨18, _⟩ => edgeOut (grid0.coords t) (insAt m c t)
    | ⟨19, _⟩ => graphOut (insAt m c t) (molRows m c)
    | ⟨_ + 20, h⟩ => absurd h (Nat.not_lt.2 (Nat.le_add_left _ _))
  Φ t := iprop(iprop(∃ s : Vec F S104x128 .f32, ⌜∀ y : S104x128.Idx, (y 0).val < 2 * t.val → s y = molRows m c y⌝
    ∗ owns (c : Thread nD τ) scM0_0 fullShare s) ∗ (∃ r, prngReg c r))
  q _ := fullShare
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = nodeOut (grid0.coords t) (insAt m c t) := by dsimp only [dats]
theorem after0_18 (c : Dev nD) (t : Fin cfg0.N) : (dats m 0 c).after 18 t = edgeOut (grid0.coords t) (insAt m c t) := by dsimp only [dats]
theorem after0_19 (c : Dev nD) (t : Fin cfg0.N) : (dats m 0 c).after 19 t = graphOut (insAt m c t) (molRows m c) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-- The scratch's invariant at a point, written out. -/
theorem Phi_eq (c : Dev nD) (t : Fin (cfg0.N + 1)) : (dats m 0 c).Φ t = iprop(iprop(∃ s : Vec F S104x128 .f32,
      ⌜∀ y : S104x128.Idx, (y 0).val < 2 * t.val → s y = molRows m c y⌝ ∗ owns (c : Thread nD τ) scM0_0 fullShare s) ∗ (∃ r, prngReg c r)) := by
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

/-- The graph block is written at the last point only. -/
theorem idle19 (t : Fin cfg0.N) : cfg0.idle 19 (grid0.coords t) = !(k0_cond1 (grid0.coords t) == 1#1) := rfl

theorem leaves0_0 (c : Dev nD) (t : Fin cfg0.N) : (dats m 0 c).leavesExact 0 t = owns (c : Thread nD τ) (ms0_0 t) fullShare ((dats m 0 c).after 0 t) := by
  unfold Dat.leavesExact; rw [show cfg0.idle 0 (cfg0.grid.coords t) = false from rfl]
theorem leaves0_1 (c : Dev nD) (t : Fin cfg0.N) : (dats m 0 c).leavesExact 1 t = owns (c : Thread nD τ) (ms0_1 t) fullShare ((dats m 0 c).after 1 t) := by
  unfold Dat.leavesExact; rw [show cfg0.idle 1 (cfg0.grid.coords t) = false from rfl]
theorem leaves0_2 (c : Dev nD) (t : Fin cfg0.N) : (dats m 0 c).leavesExact 2 t = owns (c : Thread nD τ) (ms0_2 t) fullShare ((dats m 0 c).after 2 t) := by
  unfold Dat.leavesExact; rw [show cfg0.idle 2 (cfg0.grid.coords t) = false from rfl]
theorem leaves0_3 (c : Dev nD) (t : Fin cfg0.N) : (dats m 0 c).leavesExact 3 t = owns (c : Thread nD τ) (ms0_3 t) fullShare ((dats m 0 c).after 3 t) := by
  unfold Dat.leavesExact; rw [show cfg0.idle 3 (cfg0.grid.coords t) = false from rfl]
theorem leaves0_4 (c : Dev nD) (t : Fin cfg0.N) : (dats m 0 c).leavesExact 4 t = owns (c : Thread nD τ) (ms0_4 t) fullShare ((dats m 0 c).after 4 t) := by
  unfold Dat.leavesExact; rw [show cfg0.idle 4 (cfg0.grid.coords t) = false from rfl]
theorem leaves0_5 (c : Dev nD) (t : Fin cfg0.N) : (dats m 0 c).leavesExact 5 t = owns (c : Thread nD τ) (ms0_5 t) fullShare ((dats m 0 c).after 5 t) := by
  unfold Dat.leavesExact; rw [show cfg0.idle 5 (cfg0.grid.coords t) = false from rfl]
theorem leaves0_6 (c : Dev nD) (t : Fin cfg0.N) : (dats m 0 c).leavesExact 6 t = owns (c : Thread nD τ) (ms0_6 t) fullShare ((dats m 0 c).after 6 t) := by
  unfold Dat.leavesExact; rw [show cfg0.idle 6 (cfg0.grid.coords t) = false from rfl]
theorem leaves0_7 (c : Dev nD) (t : Fin cfg0.N) : (dats m 0 c).leavesExact 7 t = owns (c : Thread nD τ) (ms0_7 t) fullShare ((dats m 0 c).after 7 t) := by
  unfold Dat.leavesExact; rw [show cfg0.idle 7 (cfg0.grid.coords t) = false from rfl]
theorem leaves0_8 (c : Dev nD) (t : Fin cfg0.N) : (dats m 0 c).leavesExact 8 t = owns (c : Thread nD τ) (ms0_8 t) fullShare ((dats m 0 c).after 8 t) := by
  unfold Dat.leavesExact; rw [show cfg0.idle 8 (cfg0.grid.coords t) = false from rfl]
theorem leaves0_9 (c : Dev nD) (t : Fin cfg0.N) : (dats m 0 c).leavesExact 9 t = owns (c : Thread nD τ) (ms0_9 t) fullShare ((dats m 0 c).after 9 t) := by
  unfold Dat.leavesExact; rw [show cfg0.idle 9 (cfg0.grid.coords t) = false from rfl]
theorem leaves0_10 (c : Dev nD) (t : Fin cfg0.N) : (dats m 0 c).leavesExact 10 t = owns (c : Thread nD τ) (ms0_10 t) fullShare ((dats m 0 c).after 10 t) := by
  unfold Dat.leavesExact; rw [show cfg0.idle 10 (cfg0.grid.coords t) = false from rfl]
theorem leaves0_11 (c : Dev nD) (t : Fin cfg0.N) : (dats m 0 c).leavesExact 11 t = owns (c : Thread nD τ) (ms0_11 t) fullShare ((dats m 0 c).after 11 t) := by
  unfold Dat.leavesExact; rw [show cfg0.idle 11 (cfg0.grid.coords t) = false from rfl]
theorem leaves0_12 (c : Dev nD) (t : Fin cfg0.N) : (dats m 0 c).leavesExact 12 t = owns (c : Thread nD τ) (ms0_12 t) fullShare ((dats m 0 c).after 12 t) := by
  unfold Dat.leavesExact; rw [show cfg0.idle 12 (cfg0.grid.coords t) = false from rfl]
theorem leaves0_13 (c : Dev nD) (t : Fin cfg0.N) : (dats m 0 c).leavesExact 13 t = owns (c : Thread nD τ) (ms0_13 t) fullShare ((dats m 0 c).after 13 t) := by
  unfold Dat.leavesExact; rw [show cfg0.idle 13 (cfg0.grid.coords t) = false from rfl]
theorem leaves0_14 (c : Dev nD) (t : Fin cfg0.N) : (dats m 0 c).leavesExact 14 t = owns (c : Thread nD τ) (ms0_14 t) fullShare ((dats m 0 c).after 14 t) := by
  unfold Dat.leavesExact; rw [show cfg0.idle 14 (cfg0.grid.coords t) = false from rfl]
theorem leaves0_15 (c : Dev nD) (t : Fin cfg0.N) : (dats m 0 c).leavesExact 15 t = owns (c : Thread nD τ) (ms0_15 t) fullShare ((dats m 0 c).after 15 t) := by
  unfold Dat.leavesExact; rw [show cfg0.idle 15 (cfg0.grid.coords t) = false from rfl]
theorem leaves0_16 (c : Dev nD) (t : Fin cfg0.N) : (dats m 0 c).leavesExact 16 t = owns (c : Thread nD τ) (ms0_16 t) fullShare ((dats m 0 c).after 16 t) := by
  unfold Dat.leavesExact; rw [show cfg0.idle 16 (cfg0.grid.coords t) = false from rfl]
theorem leaves0_17 (c : Dev nD) (t : Fin cfg0.N) : (dats m 0 c).leavesExact 17 t = owns (c : Thread nD τ) (ms0_17 t) fullShare ((dats m 0 c).after 17 t) := by
  unfold Dat.leavesExact; rw [show cfg0.idle 17 (cfg0.grid.coords t) = false from rfl]
theorem leaves0_18 (c : Dev nD) (t : Fin cfg0.N) : (dats m 0 c).leavesExact 18 t = owns (c : Thread nD τ) (ms0_18 t) fullShare ((dats m 0 c).after 18 t) := by
  unfold Dat.leavesExact; rw [show cfg0.idle 18 (cfg0.grid.coords t) = false from rfl]
theorem leaves0_19_last (c : Dev nD) (t : Fin cfg0.N) (h : k0_cond1 (grid0.coords t) = 1#1) :
    (dats m 0 c).leavesExact 19 t = owns (c : Thread nD τ) (ms0_19 t) fullShare ((dats m 0 c).after 19 t) := by
  unfold Dat.leavesExact
  rw [show cfg0.idle 19 (cfg0.grid.coords t) = false from (idle19 t).trans (by rw [h]; rfl)]
theorem leaves0_19_idle (c : Dev nD) (t : Fin cfg0.N) (h : ¬k0_cond1 (grid0.coords t) = 1#1) (ht : t.val ≠ 49) :
    (dats m 0 c).leavesExact 19 t = iprop(∃ d, owns (c : Thread nD τ) (ms0_19 t) fullShare ((dats m 0 c).before 19 t d)) := by
  have hN : t.val < 50 := lt_of_lt_of_eq t.isLt N_0
  refine Dat.leavesExact_idle _ 19 t ?_ ?_
  · exact (idle19 t).trans (by rw [beq_eq_false_iff_ne.mpr h]; rfl)
  · rcases hf : (cfg0.win 19).flush t with _ | _
    · rfl
    · exact absurd ((flush0_19 t).mp hf) (by omega)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, after0_0, after0_1, after0_2, after0_3, after0_4, after0_5, after0_6, after0_7, after0_8, after0_9, after0_10, after0_11, after0_12, after0_13, after0_14, after0_15, after0_16, after0_17, after0_18, Phi_eq,
    show (dats m 0 c).owesAt () t.succ = (dats m 0 c).owesAt () t.castSucc from rfl]
  have hN : t.val < 50 := lt_of_lt_of_eq t.isLt (show cfg0.N = 50 from N_0)
  by_cases h0 : k0_cond1 (grid0.coords t) = 1#1
  · rw [leaves0_19_last m c t h0, after0_19]
    have ht : t.val = 49 := (hcond t).mp h0
    have eg : ∀ s : Vec F S104x128 .f32, (∀ y : S104x128.Idx, (y 0).val < 2 * t.val → s y = molRows m c y) →
        graphOut (insAt m c t) (scrOut (grid0.coords t) (insAt m c t) s) = graphOut (insAt m c t) (molRows m c) := fun s hs =>
      graphOut_congr _ _ _ fun y hy => scrOut_rows m c t s hs y (by omega)
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    rw [← eg s hs]
    iapply ((kernelRun0_B c (grid0.coords t) _ _ _ _ _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) s ((dats m 0 c).before 19 t d19)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexact H19
    isplitl [HS0]; · iexact HS0
    iintro ⟨H0, H1, H2, H3, H4, H5, H6, H7, H8, H9, H10, H11, H12, H13, H14, H15, H16, H17, H18, H19, HS0⟩
    isplitl [HS0 Hg]
    · isplitl [HS0]
      · iexists _; isplitr; swap; · iexact HS0
        ipureintro; exact scrOut_rows m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  · rw [leaves0_19_idle m c t h0 (fun h => h0 ((hcond t).mpr h))]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun0_A c (grid0.coords t) _ _ _ _ _ _ _ _ _ _ _ _ _ _ _ _ _ _ _ _ _ _ _ _ _ _ _ _ _ _ _ _ _ _ _ _ _ _ _ _ _ _ h0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) s ((dats m 0 c).before 19 t d19)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexact H19
    isplitl [HS0]; · iexact HS0
    iintro ⟨H0, H1, H2, H3, H4, H5, H6, H7, H8, H9, H10, H11, H12, H13, H14, H15, H16, H17, H18, H19, HS0⟩
    isplitl [HS0 Hg]
    · isplitl [HS0]
      · iexists _; isplitr; swap; · iexact HS0
        ipureintro; exact scrOut_rows m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexists _; iexact H19

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem Phi_in (c : Dev nD) : (Pipeline.ΦA spec0 c : sProp 𝕄) ⊢ (dats m 0 c).Φ 0 := by
  rw [PhiA0_eq, Phi_eq]
  iintro ⟨⟨%d, H⟩, Hg⟩
  isplitl [H]
  · iexists d; isplitr; swap; · iexact H
    ipureintro; intro y hy
    exact absurd hy (by show ¬ _ < 2 * 0; omega)
  iexact Hg

theorem Phi_out (c : Dev nD) : (dats m 0 c).Φ (Fin.last cfg0.N) ⊢ (Pipeline.ΦA spec0 c : sProp 𝕄) := by
  rw [PhiA0_eq, Phi_eq]
  iintro ⟨⟨%d, -, H⟩, Hg⟩
  isplitl [H]
  · iexists d; iexact H
  iexact Hg

set_option backward.isDefEq.respectTransparency.types false in
/-- The launch: every run ends with the arrays as the proof data says and the counters at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Phi_in m) (hout := Phi_out m)

end Cert.KernelIdeal.Gen

end
-- ==== Proof.Frames.lean ====
module

public import proofs.«01_k».proof.Defs
public import proofs.«01_k».proof.Proof.KFrame
public import proofs.«01_k».proof.Proof.Gen.Kernel
public import proofs.«01_k».proof.Proof.Gen.ReferenceIdeal.Run
public import Idealize.ShloMosaic.Lib.Claim

@[expose] public section

noncomputable section

open Idealize.ShloMosaic Idealize.ShloMosaic.TcCoe Idealize.SL.Sem

/-! ## The frames of the three programs -/

namespace Cert.Proof.Frames

section
open Cert.KernelIdeal Cert.KernelIdeal.Gen

/-- The idealized kernel ends with its arguments unchanged and every counter at zero. -/
theorem kernelIdeal : Cert.quiescent_KernelIdeal := fun m ρ _ =>
  θ_run_and (frame_of m ρ (dats m) (A_eq m) ((θ_run defs _ _).mono (fun _ h => h.1) (run_main m ρ)))
    ((θ_run defs _ _).mono (fun _ h => h.2) (run_main m ρ))

/-- The kernel's frame, said of the same program under the other name, on the machine's floats. -/
def OnBits : Prop :=
 ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0)

/-- The run that gives the idealized kernel's frame is of every float type, the machine's among them. -/
theorem onBits : OnBits := fun m ρ _ =>
  θ_run_and (frame_of (F := Bits) m ρ (dats m) (A_eq m) ((θ_run defs _ _).mono (fun _ h => h.1) (run_main m ρ)))
    ((θ_run defs _ _).mono (fun _ h => h.2) (run_main m ρ))

end

/-- The kernel and its idealization print the same program: the two statements are one. -/
theorem bits_eq : Cert.quiescent_Kernel = OnBits := by
  sl_kernel_rfl

/-- The kernel ends with its arguments unchanged and every counter at zero. -/
theorem kernel : Cert.quiescent_Kernel := bits_eq.mpr onBits

/-- The reference ends with its arguments unchanged; it declares no semaphore. -/
theorem referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

end Cert.Proof.Frames

end
-- ==== Proof.Spec.lean ====
module

public import Idealize.ShloMosaic.PureOps.Ideal.Laws
public import Idealize.ShloMosaic.Lib.Pointwise

@[expose] public section

noncomputable section

namespace Cert.Spec

open Idealize.ShloMosaic

/-! ## The message-passing network, one molecule at a time: the messages over the real numbers, the heads over the extended ones -/

/-- One molecule: the features of its atoms and of its directed bonds, and the atom each bond ends at.
    Bond `j` and bond `flip j` are each other's reverses. -/
structure Mol where
  fa : Fin 100 → Fin 128 → EReal
  fb : Fin 3200 → Fin 144 → ℝ
  dst : Fin 3200 → Fin 100

/-- The weights and biases of the network. -/
structure Wts where
  wi : Fin 144 → Fin 128 → ℝ
  wh : Fin 128 → Fin 128 → ℝ
  wo : Fin 256 → Fin 128 → EReal
  bo : Fin 128 → EReal
  wn : Fin 128 → Fin 128 → EReal
  bn : Fin 128 → EReal
  we : Fin 128 → Fin 16 → EReal
  be : Fin 16 → EReal
  g1 : Fin 128 → Fin 128 → EReal
  c1 : Fin 128 → EReal
  g2 : Fin 128 → Fin 1 → EReal
  c2 : Fin 1 → EReal

/-- The reverse bond: bonds come in pairs `2 p`, `2 p + 1`. -/
def flip (j : Fin 3200) : Fin 3200 := ⟨if j.val % 2 = 0 then j.val + 1 else j.val - 1, by split <;> omega⟩

variable (W : Wts) (M : Mol)

/-- A bond's input features times `W_i`. -/
def inp (j : Fin 3200) (h : Fin 128) : ℝ := ∑ k, M.fb j k * W.wi k h
/-- The messages `m` added up at each atom they end at. -/
def seg (m : Fin 3200 → Fin 128 → ℝ) (a : Fin 100) (h : Fin 128) : ℝ := ∑ j, if M.dst j = a then m j h else 0
/-- One round of message passing: a bond's new message from the sum at its start less its reverse's message. -/
def step (m : Fin 3200 → Fin 128 → ℝ) (j : Fin 3200) (h : Fin 128) : ℝ :=
  max (inp W M j h + ∑ k, (seg M m (M.dst (flip j)) k - m (flip j) k) * W.wh k h) 0
/-- The messages after the three rounds. -/
def msg0 (j : Fin 3200) (h : Fin 128) : ℝ := max (inp W M j h) 0
def msg1 : Fin 3200 → Fin 128 → ℝ := step W M (msg0 W M)
def msg2 : Fin 3200 → Fin 128 → ℝ := step W M (msg1 W M)
/-- The hidden state of an atom. -/
def ah (a : Fin 100) (h : Fin 128) : EReal :=
  max ((∑ k : Fin 128, M.fa a k * W.wo (Fin.castLE (by omega) k) h)
    + (∑ k : Fin 128, ((seg M (msg2 W M) a k : ℝ) : EReal) * W.wo (Fin.natAdd 128 k) h) + W.bo h) 0
/-- The node head. -/
def node (a : Fin 100) (h : Fin 128) : EReal := (∑ k, ah W M a k * W.wn k h) + W.bn h
/-- The start and the end of the bond kept of pair `f`. -/
def fwd (f : Fin 1600) : Fin 3200 := ⟨2 * f.val, by omega⟩
def bwd (f : Fin 1600) : Fin 3200 := ⟨2 * f.val + 1, by omega⟩
/-- The edge head at pair `f`: from the mean of the hidden states of the two atoms it joins. -/
def edge (f : Fin 1600) (c : Fin 16) : EReal :=
  (∑ k, (((1 / 2 : ℝ) : EReal) * (ah W M (M.dst (bwd f)) k + ah W M (M.dst (fwd f)) k)) * W.we k c) + W.be c
/-- The sum of the hidden states of a molecule. -/
def gsum (h : Fin 128) : EReal := ∑ a, ah W M a h
/-- The graph head. -/
def graph (c : Fin 1) : EReal :=
  (∑ h, max ((∑ k, gsum W M k * W.g1 k h) + W.c1 h) 0 * W.g2 h c) + W.c2 c

theorem flip_flip (j : Fin 3200) : flip (flip j) = j := by
  apply Fin.ext; simp only [flip]; split <;> split <;> omega

theorem flip_fwd (f : Fin 1600) : flip (fwd f) = bwd f := by
  apply Fin.ext
  show (if (2 * f.val) % 2 = 0 then 2 * f.val + 1 else 2 * f.val - 1) = 2 * f.val + 1
  rw [if_pos (by omega)]

/-! ## Where a molecule's atoms and bonds lie in the arrays -/

def atomIx (k : Fin 100) (a : Fin 100) : Fin 10000 := ⟨100 * k.val + a.val, by omega⟩
def edgeIx (k : Fin 100) (j : Fin 3200) : Fin 320000 := ⟨3200 * k.val + j.val, by omega⟩
def pairIx (k : Fin 100) (f : Fin 1600) : Fin 160000 := ⟨1600 * k.val + f.val, by omega⟩

theorem atom_cases (n : Fin 10000) : ∃ k a, n = atomIx k a :=
  ⟨⟨n.val / 100, by omega⟩, ⟨n.val % 100, by omega⟩, Fin.ext (by show n.val = 100 * (n.val / 100) + n.val % 100; omega)⟩
theorem edge_cases (e : Fin 320000) : ∃ k j, e = edgeIx k j :=
  ⟨⟨e.val / 3200, by omega⟩, ⟨e.val % 3200, by omega⟩, Fin.ext (by show e.val = 3200 * (e.val / 3200) + e.val % 3200; omega)⟩
theorem pair_cases (e : Fin 160000) : ∃ k f, e = pairIx k f :=
  ⟨⟨e.val / 1600, by omega⟩, ⟨e.val % 1600, by omega⟩, Fin.ext (by show e.val = 1600 * (e.val / 1600) + e.val % 1600; omega)⟩

/-- A vector's entries are `x`. -/
def Is1 {A : Nat} (X : (⟨1, ![A]⟩ : Shape).Idx → EReal) (x : Fin A → EReal) : Prop := ∀ a, X (ix1 a) = x a
/-- A matrix's entries are `x`. -/
def Is2E {A B : Nat} (X : (⟨2, ![A, B]⟩ : Shape).Idx → EReal) (x : Fin A → Fin B → EReal) : Prop :=
  ∀ a b, X (ix2 a b) = x a b
/-- A matrix's entries are the reals `x`. -/
def Is2 {A B : Nat} (X : (⟨2, ![A, B]⟩ : Shape).Idx → EReal) (x : Fin A → Fin B → ℝ) : Prop :=
  ∀ a b, X (ix2 a b) = ((x a b : ℝ) : EReal)

/-- The sixteen arguments are the molecules `Ms` with the weights `W`: what the messages
    are computed from is real, every bond ends in its own molecule, the two bonds of a pair are reverses, and the atoms are numbered molecule by molecule. -/
structure Args (W : Wts) (Ms : Fin 100 → Mol)
    (x0 : (⟨2, ![10000, 128]⟩ : Shape).Idx → EReal) (x1 : (⟨2, ![320000, 144]⟩ : Shape).Idx → EReal)
    (x2 : (⟨2, ![2, 320000]⟩ : Shape).Idx → BitVec 32) (x3 : (⟨1, ![10000]⟩ : Shape).Idx → BitVec 32)
    (x4 : (⟨2, ![144, 128]⟩ : Shape).Idx → EReal) (x5 : (⟨2, ![128, 128]⟩ : Shape).Idx → EReal)
    (x6 : (⟨2, ![256, 128]⟩ : Shape).Idx → EReal) (x7 : (⟨1, ![128]⟩ : Shape).Idx → EReal)
    (x8 : (⟨2, ![128, 128]⟩ : Shape).Idx → EReal) (x9 : (⟨1, ![128]⟩ : Shape).Idx → EReal)
    (x10 : (⟨2, ![128, 16]⟩ : Shape).Idx → EReal) (x11 : (⟨1, ![16]⟩ : Shape).Idx → EReal)
    (x12 : (⟨2, ![128, 128]⟩ : Shape).Idx → EReal) (x13 : (⟨1, ![128]⟩ : Shape).Idx → EReal)
    (x14 : (⟨2, ![128, 1]⟩ : Shape).Idx → EReal) (x15 : (⟨1, ![1]⟩ : Shape).Idx → EReal) : Prop where
  fa : ∀ k a h, x0 (ix2 (atomIx k a) h) = (Ms k).fa a h
  fb : ∀ k j h, x1 (ix2 (edgeIx k j) h) = (((Ms k).fb j h : ℝ) : EReal)
  src : ∀ k j, x2 (ix2 0 (edgeIx k j)) = BitVec.ofNat 32 (atomIx k ((Ms k).dst (flip j))).val
  dst : ∀ k j, x2 (ix2 1 (edgeIx k j)) = BitVec.ofNat 32 (atomIx k ((Ms k).dst j)).val
  mol : ∀ k a, x3 (ix1 (atomIx k a)) = BitVec.ofNat 32 k.val
  wi : Is2 x4 W.wi
  wh : Is2 x5 W.wh
  wo : Is2E x6 W.wo
  bo : Is1 x7 W.bo
  wn : Is2E x8 W.wn
  bn : Is1 x9 W.bn
  we : Is2E x10 W.we
  be : Is1 x11 W.be
  g1 : Is2E x12 W.g1
  c1 : Is1 x13 W.c1
  g2 : Is2E x14 W.g2
  c2 : Is1 x15 W.c2

/-! ## Sums and maxima of reals in the extended reals -/

/-- A sum of products read factor by factor. -/
theorem sum_mul_congr {ι : Type*} [Fintype ι] (f g x y : ι → EReal) (hf : ∀ k, f k = x k) (hg : ∀ k, g k = y k) :
    ∑ k, f k * g k = ∑ k, x k * y k := Finset.sum_congr rfl fun k _ => by rw [hf, hg]

/-- A nonnegative real factor goes into a sum of extended reals. -/
theorem coe_mul_sum {ι : Type*} (s : Finset ι) (r : ℝ) (hr : 0 ≤ r) (f : ι → EReal) :
    (r : EReal) * ∑ i ∈ s, f i = ∑ i ∈ s, (r : EReal) * f i := by
  classical
  refine Finset.induction_on s (by simp) fun a s ha ih => ?_
  rw [Finset.sum_insert ha, Finset.sum_insert ha,
    EReal.left_distrib_of_nonneg_of_ne_top (EReal.coe_nonneg.2 hr) (EReal.coe_ne_top r), ih]

theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem coe_max (a b : ℝ) : ((max a b : ℝ) : EReal) = max (a : EReal) (b : EReal) :=
  (EReal.coe_strictMono.monotone.map_max)

theorem coe_max0 (a : ℝ) : max (a : EReal) 0 = ((max a 0 : ℝ) : EReal) := by rw [coe_max]; rfl

/-- Row-major positions of the bonds, as molecule and bond within it. -/
theorem sum_edges {β : Type*} [AddCommMonoid β] (f : Fin 320000 → β) : ∑ e, f e = ∑ k, ∑ j, f (edgeIx k j) := by
  rw [← Fintype.sum_prod_type']
  refine (Fintype.sum_bijective (fun p : Fin 100 × Fin 3200 => edgeIx p.1 p.2) ⟨?_, ?_⟩ _ _ fun _ => rfl).symm
  · rintro ⟨k, j⟩ ⟨k', j'⟩ h
    have h : 3200 * k.val + j.val = 3200 * k'.val + j'.val := congrArg Fin.val h
    refine Prod.ext (Fin.ext ?_) (Fin.ext ?_) <;> simp only <;> omega
  · intro e; obtain ⟨k, j, rfl⟩ := edge_cases e; exact ⟨(k, j), rfl⟩

theorem sum_atoms {β : Type*} [AddCommMonoid β] (f : Fin 10000 → β) : ∑ e, f e = ∑ k, ∑ a, f (atomIx k a) := by
  rw [← Fintype.sum_prod_type']
  refine (Fintype.sum_bijective (fun p : Fin 100 × Fin 100 => atomIx p.1 p.2) ⟨?_, ?_⟩ _ _ fun _ => rfl).symm
  · rintro ⟨k, j⟩ ⟨k', j'⟩ h
    have h : 100 * k.val + j.val = 100 * k'.val + j'.val := congrArg Fin.val h
    refine Prod.ext (Fin.ext ?_) (Fin.ext ?_) <;> simp only <;> omega
  · intro e; obtain ⟨k, j, rfl⟩ := atom_cases e; exact ⟨(k, j), rfl⟩

theorem atomIx_inj {k k' a a' : Fin 100} : atomIx k a = atomIx k' a' ↔ k = k' ∧ a = a' := by
  constructor
  · intro h
    have h : 100 * k.val + a.val = 100 * k'.val + a'.val := congrArg Fin.val h
    constructor <;> apply Fin.ext <;> omega
  · rintro ⟨rfl, rfl⟩; rfl

/-- The messages of all molecules added up at an atom are those of its own molecule. -/
theorem sum_edges_at (Ms : Fin 100 → Mol) (g : Fin 100 → Fin 3200 → ℝ) (k : Fin 100) (a : Fin 100) :
    (∑ k', ∑ j, if atomIx k' ((Ms k').dst j) = atomIx k a then g k' j else 0)
      = ∑ j, if (Ms k).dst j = a then g k j else 0 := by
  rw [Finset.sum_eq_single k]
  · refine Finset.sum_congr rfl fun j _ => ?_
    refine if_congr ?_ rfl rfl
    rw [atomIx_inj]; exact and_iff_right rfl
  · intro k' _ hk
    refine Finset.sum_eq_zero fun j _ => if_neg ?_
    rw [atomIx_inj]; exact fun h => hk h.1
  · intro h; exact absurd (Finset.mem_univ _) h

end Cert.Spec

end
-- ==== Proof.BlkOps.lean ====
module

public import proofs.«01_k».proof.Proof.KOuts
public import proofs.«01_k».proof.Proof.Spec
public import Idealize.ShloMosaic.Lib.Pointwise

@[expose] public section

set_option maxRecDepth 16384

noncomputable section

namespace Cert.KernelIdeal.Gen

open Idealize.ShloMosaic Idealize.ShloMosaic.TcCoe Idealize.ShloMosaic.Tactic
open Cert.Spec

/-! ## One molecule's computation as compositions of vector operations -/

/-- The one-hot matrix of a row of atom numbers, counted from `base`. -/
def ohI (base : BitVec 32) (row : IVec S1x3200 32) : FVec Ideal S128x3200 .bf16 :=
  truncf .bf16 (select (cmpi .eq (iota .tc S128x3200 32 [0] iota_S128x3200_d0_w32)
      (broadcastTo S128x3200 (subi (shapeCast S1x3200 row shapeCasts_S1x3200_S1x3200) (broadcast S1x3200 base)) broadcasts_S1x3200_S128x3200))
    (broadcast S128x3200 (Scalar.ofBits (F := Ideal) .f32 0x3F800000#32)) (broadcast S128x3200 (Scalar.ofBits (F := Ideal) .f32 0x00000000#32))) bitsLt_bf16_f32

/-- Rows added up by a one-hot matrix, in two halves. -/
def segI (oh : FVec Ideal S128x3200 .bf16) (v : FVec Ideal S3200x128 .f32) : FVec Ideal S128x128 .f32 :=
  addf (matmul dot_S128x3200_S3200x128_S128x128_1_0_0_1_n_n none oh (truncf .bf16 v bitsLt_bf16_f32) (constant S128x128 .f32 0x00000000#32))
    (matmul dot_S128x3200_S3200x128_S128x128_1_0_0_1_n_n none oh
      (truncf .bf16 (subf v (extf .f32 (truncf .bf16 v bitsLt_bf16_f32) bitsLt_bf16_f32)) bitsLt_bf16_f32) (constant S128x128 .f32 0x00000000#32))

/-- Rows read by a one-hot matrix, in two halves. -/
def takeI (oh : FVec Ideal S128x3200 .bf16) (v : FVec Ideal S128x128 .f32) : FVec Ideal S3200x128 .f32 :=
  addf (matmul dot_S128x3200_S128x128_S3200x128_0_0_1_1_n_n none oh (truncf .bf16 v bitsLt_bf16_f32) (constant S3200x128 .f32 0x00000000#32))
    (matmul dot_S128x3200_S128x128_S3200x128_0_0_1_1_n_n none oh
      (truncf .bf16 (subf v (extf .f32 (truncf .bf16 v bitsLt_bf16_f32) bitsLt_bf16_f32)) bitsLt_bf16_f32) (constant S3200x128 .f32 0x00000000#32))

/-- The two rows of each pair exchanged. -/
def revI (v : FVec Ideal S3200x128 .f32) : FVec Ideal S3200x128 .f32 :=
  shapeCast S3200x128 (concatenate S1600x2x128 1
    [⟨S1600x1x128, shapeCast S1600x1x128 (shapeCast S1600x128 (extractStridedSlice S1600x1x128 ![0, 1, 0] (shapeCast S1600x2x128 v shapeCasts_S3200x128_S1600x2x128) slices_S1600x2x128_o0_1_0_S1600x1x128) shapeCasts_S1600x1x128_S1600x128) shapeCasts_S1600x128_S1600x1x128⟩,
     ⟨S1600x1x128, shapeCast S1600x1x128 (shapeCast S1600x128 (extractStridedSlice S1600x1x128 ![0, 0, 0] (shapeCast S1600x2x128 v shapeCasts_S3200x128_S1600x2x128) slices_S1600x2x128_o0_0_0_S1600x1x128) shapeCasts_S1600x1x128_S1600x128) shapeCasts_S1600x128_S1600x1x128⟩]
    concatenates_S1600x1x128_S1600x1x128_S1600x2x128_d1) shapeCasts_S1600x2x128_S3200x128

def reluI (v : FVec Ideal S3200x128 .f32) : FVec Ideal S3200x128 .f32 :=
  maximumf v (broadcast S3200x128 (Scalar.ofBits (F := Ideal) .f32 0x00000000#32))

/-- One round of message passing. -/
def roundI (oh : FVec Ideal S128x3200 .bf16) (ip : FVec Ideal S3200x128 .f32) (wh : FVec Ideal S128x128 .f32) (v : FVec Ideal S3200x128 .f32) :
    FVec Ideal S3200x128 .f32 :=
  reluI (addf ip (matmul dot_S3200x128_S128x128_S3200x128_1_0_0_1_n_n none (revI (subf (takeI oh (segI oh v)) v)) wh (constant S3200x128 .f32 0x00000000#32)))

/-- The messages summed at each atom after the last round. -/
def amsgI (oh : FVec Ideal S128x3200 .bf16) (ip : FVec Ideal S3200x128 .f32) (wh : FVec Ideal S128x128 .f32) : FVec Ideal S128x128 .f32 :=
  segI oh (roundI oh ip wh (roundI oh ip wh (reluI ip)))

/-- The hidden states. -/
def hidI (am : FVec Ideal S128x128 .f32) (fa : FVec Ideal S100x128 .f32) (wa wb : FVec Ideal S128x128 .f32) (b : FVec Ideal S1x128 .f32) : FVec Ideal S128x128 .f32 :=
  maximumf (addf (addf
      (matmul dot_S128x128_S128x128_S128x128_1_0_0_1_n_n none (concatenate S128x128 0 [⟨S100x128, fa⟩, ⟨S28x128, broadcast S28x128 (Scalar.ofBits (F := Ideal) .f32 0x00000000#32)⟩] concatenates_S100x128_S28x128_S128x128_d0) wa (constant S128x128 .f32 0x00000000#32))
      (matmul dot_S128x128_S128x128_S128x128_1_0_0_1_n_n none am wb (constant S128x128 .f32 0x00000000#32)))
    (broadcastTo S128x128 (shapeCast S1x128 b shapeCasts_S1x128_S1x128) broadcasts_S1x128_S128x128))
    (broadcast S128x128 (Scalar.ofBits (F := Ideal) .f32 0x00000000#32))

/-- The node head. -/
def nodeI (hd : FVec Ideal S128x128 .f32) (wn : FVec Ideal S128x128 .f32) (b : FVec Ideal S1x128 .f32) : FVec Ideal S100x128 .f32 :=
  extractStridedSlice S100x128 ![0, 0] (addf
    (matmul dot_S128x128_S128x128_S128x128_1_0_0_1_n_n none (truncf .bf16 hd bitsLt_bf16_f32) (truncf .bf16 wn bitsLt_bf16_f32) (constant S128x128 .f32 0x00000000#32))
    (broadcastTo S128x128 (shapeCast S1x128 b shapeCasts_S1x128_S1x128) broadcasts_S1x128_S128x128)) slices_S128x128_o0_0_S100x128

/-- The one-hot matrix of the atoms of the kept bonds. -/
def oh2I (base : BitVec 32) (row : IVec S1x1600 32) : FVec Ideal S128x1600 .f32 :=
  select (cmpi .eq (iota .tc S128x1600 32 [0] iota_S128x1600_d0_w32)
      (broadcastTo S128x1600 (subi (shapeCast S1x1600 row shapeCasts_S1x1600_S1x1600) (broadcast S1x1600 base)) broadcasts_S1x1600_S128x1600))
    (broadcast S128x1600 (Scalar.ofBits (F := Ideal) .f32 0x3F800000#32)) (broadcast S128x1600 (Scalar.ofBits (F := Ideal) .f32 0x00000000#32))

/-- The edge head. -/
def edgeI (hd : FVec Ideal S128x128 .f32) (we : FVec Ideal S128x16 .f32) (base : BitVec 32) (se de : IVec S1x1600 32) (b : FVec Ideal S1x16 .f32) :
    FVec Ideal S1600x16 .f32 :=
  addf (mulf (broadcast S1600x16 (Scalar.ofBits (F := Ideal) .f32 0x3F000000#32))
    (matmul dot_S128x1600_S128x16_S1600x16_0_0_1_1_n_n none (truncf .bf16 (addf (oh2I base se) (oh2I base de)) bitsLt_bf16_f32)
      (truncf .bf16 (matmul dot_S128x128_S128x16_S128x16_1_0_0_1_n_n none (truncf .bf16 hd bitsLt_bf16_f32) (truncf .bf16 we bitsLt_bf16_f32) (constant S128x16 .f32 0x00000000#32)) bitsLt_bf16_f32)
      (constant S1600x16 .f32 0x00000000#32)))
    (broadcastTo S1600x16 (shapeCast S1x16 b shapeCasts_S1x16_S1x16) broadcasts_S1x16_S1600x16)

/-- The sum of a molecule's hidden states. -/
def molI (hd : FVec Ideal S128x128 .f32) : FVec Ideal S1x128 .f32 := k0_pay18 hd

variable (i : grid0.Coords) (X : Ins Ideal)

/-- The bonds' input features times `W_i`, both molecules' and each one's. -/
def ip0 : FVec Ideal S3200x128 .f32 := extractStridedSlice S3200x128 ![0, 0] (k0_pay4 (w1 X) (w5 X)) slices_S6400x128_o0_0_S3200x128
def ip1 : FVec Ideal S3200x128 .f32 := extractStridedSlice S3200x128 ![3200, 0] (k0_pay4 (w1 X) (w5 X)) slices_S6400x128_o3200_0_S3200x128

theorem hid0_eq : hid0 i X = hidI (amsgI (ohI (base0 i) (dRow0 i X)) (ip0 X) (w6 X)) (fa0 X) (woA X) (woB X) (w8 X) := rfl
theorem hid1_eq : hid1 i X = hidI (amsgI (ohI (base1 i) (dRow1 i X)) (ip1 X) (w6 X)) (fa1 X) (woA X) (woB X) (w8 X) := rfl
theorem node0_eq : node0 i X = nodeI (hid0 i X) (w9 X) (w10 X) := rfl
theorem node1_eq : node1 i X = nodeI (hid1 i X) (w9 X) (w10 X) := rfl
theorem edge0_eq : edge0 i X = edgeI (hid0 i X) (w11 X) (base0 i) (seRow0 i X) (deRow0 i X) (w12 X) := rfl
theorem edge1_eq : edge1 i X = edgeI (hid1 i X) (w11 X) (base1 i) (seRow1 i X) (deRow1 i X) (w12 X) := rfl
theorem mol0_eq : mol0 i X = molI (hid0 i X) := rfl
theorem mol1_eq : mol1 i X = molI (hid1 i X) := rfl

end Cert.KernelIdeal.Gen

end
-- ==== Proof.BlkMath.lean ====
module

public import proofs.«01_k».proof.Proof.BlkOps

@[expose] public section

set_option maxRecDepth 16384

noncomputable section

namespace Cert.KernelIdeal.Gen

open Idealize.ShloMosaic Idealize.ShloMosaic.TcCoe Idealize.ShloMosaic.Tactic
open Cert.Spec

/-! ## The compositions at real entries -/

theorem is2_congr {A B : Nat} {X : (⟨2, ![A, B]⟩ : Shape).Idx → EReal} {x y : Fin A → Fin B → ℝ} (h : Is2 X x) (e : ∀ a b, x a b = y a b) :
    Is2 X y := fun a b => by rw [h a b, e a b]

theorem sum_mul_coe {ι : Type} [Fintype ι] (f g : ι → EReal) (x y : ι → ℝ) (hf : ∀ k, f k = (x k : EReal)) (hg : ∀ k, g k = (y k : EReal)) :
    ∑ k, f k * g k = ((∑ k, x k * y k : ℝ) : EReal) := by
  rw [coe_sum]
  exact Finset.sum_congr rfl fun k _ => by rw [hf, hg, EReal.coe_mul]

theorem sum_mul_zero {ι : Type} [Fintype ι] (f g : ι → EReal) (y : ι → ℝ) (hg : ∀ k, g k = (y k : EReal)) :
    ∑ k, f k * (g k - g k) = 0 :=
  Finset.sum_eq_zero fun k _ => by rw [hg, ← EReal.coe_sub, sub_self, EReal.coe_zero, mul_zero]

theorem segI_is {oh : FVec Ideal S128x3200 .bf16} {v : FVec Ideal S3200x128 .f32} {o : Fin 128 → Fin 3200 → ℝ} {x : Fin 3200 → Fin 128 → ℝ}
    (ho : Is2 oh o) (hv : Is2 v x) : Is2 (segI oh v) (fun a h => ∑ j, o a j * x j h) := by
  intro a h
  unfold segI
  pointwise
  rw [sum_mul_zero _ _ (fun k => x k h) (fun k => hv k h), add_zero]
  exact sum_mul_coe _ _ _ _ (fun k => ho a k) (fun k => hv k h)

theorem takeI_is {oh : FVec Ideal S128x3200 .bf16} {v : FVec Ideal S128x128 .f32} {o : Fin 128 → Fin 3200 → ℝ} {x : Fin 128 → Fin 128 → ℝ}
    (ho : Is2 oh o) (hv : Is2 v x) : Is2 (takeI oh v) (fun j h => ∑ a, o a j * x a h) := by
  intro a h
  unfold takeI
  pointwise
  rw [sum_mul_zero _ _ (fun k => x k h) (fun k => hv k h), add_zero]
  exact sum_mul_coe _ _ _ _ (fun k => ho k a) (fun k => hv k h)

theorem revI_is {v : FVec Ideal S3200x128 .f32} {x : Fin 3200 → Fin 128 → ℝ} (hv : Is2 v x) :
    Is2 (revI v) (fun j h => x (flip j) h) := by
  intro j h
  unfold revI
  pointwise
  by_cases c : j.val % 2 < 1
  · rw [dif_pos c, hv]
    congr 2
    apply Fin.ext
    show j.val / 2 * 2 + (1 + j.val % 2) = if j.val % 2 = 0 then j.val + 1 else j.val - 1
    rw [if_pos (by omega)]; omega
  · rw [dif_neg c, hv]
    congr 2
    apply Fin.ext
    show j.val / 2 * 2 + (j.val % 2 - 1) = if j.val % 2 = 0 then j.val + 1 else j.val - 1
    rw [if_neg (by omega)]; omega

/-- The one-hot word test: the row's word less the base is the atom's number. -/
theorem hot_word {B a d : Nat} (hB : B + d < 2 ^ 31) (ha : a < 128) :
    Scalar.select (IntOp.cmpi .eq (BitVec.ofNat 32 a) (IntOp.subi (BitVec.ofNat 32 (B + d)) (BitVec.ofNat 32 B))) (1 : EReal) 0
      = (((if d = a then 1 else 0 : ℝ)) : EReal) := by
  have e : IntOp.subi (BitVec.ofNat 32 (B + d)) (BitVec.ofNat 32 B) = BitVec.ofNat 32 d := by
    apply BitVec.eq_of_toNat_eq
    simp only [IntOp.subi, BitVec.toNat_sub, BitVec.toNat_ofNat]
    omega
  rw [e]
  by_cases c : d = a
  · subst c
    rw [if_pos rfl, EReal.coe_one]
    simp [Scalar.select, IntOp.cmpi]
  · rw [if_neg c, EReal.coe_zero]
    have : BitVec.ofNat 32 a ≠ BitVec.ofNat 32 d := fun h => c (by
      have h := congrArg BitVec.toNat h
      simp only [BitVec.toNat_ofNat] at h; omega)
    have hb : (BitVec.ofNat 32 a == BitVec.ofNat 32 d) = false := beq_false_of_ne this
    simp [Scalar.select, IntOp.cmpi, hb]

variable {W : Wts} {M : Mol}

/-- The one-hot matrix of the molecule's bond ends. -/
def hot (M : Mol) (a : Fin 128) (j : Fin 3200) : ℝ := if (M.dst j).val = a.val then 1 else 0

theorem ohI_is {B : Nat} (hB : B < 10000) {row : IVec S1x3200 32} (hr : ∀ j, row (ix2 0 j) = BitVec.ofNat 32 (B + (M.dst j).val)) :
    Is2 (ohI (BitVec.ofNat 32 B) row) (hot M) := by
  intro a j
  unfold ohI
  pointwise
  rw [hr j]
  exact hot_word (by have := (M.dst j).isLt; omega) a.isLt

theorem seg_hot (m : Fin 3200 → Fin 128 → ℝ) (a : Fin 100) (h : Fin 128) :
    ∑ j, hot M (Fin.castLE (by omega) a) j * m j h = seg M m a h := by
  unfold seg
  refine Finset.sum_congr rfl fun j _ => ?_
  unfold hot
  rw [ite_mul, one_mul, zero_mul]
  exact if_congr (Fin.ext_iff (a := M.dst j) (b := a)).symm rfl rfl

theorem take_hot (x : Fin 128 → ℝ) (j : Fin 3200) : ∑ a, hot M a j * x a = x (Fin.castLE (by omega) (M.dst j)) := by
  rw [Finset.sum_eq_single (Fin.castLE (by omega) (M.dst j))]
  · unfold hot; rw [if_pos (show (M.dst j).val = (Fin.castLE _ (M.dst j) : Fin 128).val from rfl), one_mul]
  · intro a _ ha
    unfold hot
    rw [if_neg (fun h => ha (Fin.ext h.symm)), zero_mul]
  · intro h; exact absurd (Finset.mem_univ _) h

theorem roundI_is {oh : FVec Ideal S128x3200 .bf16} {ip v : FVec Ideal S3200x128 .f32} {wh : FVec Ideal S128x128 .f32} {m : Fin 3200 → Fin 128 → ℝ}
    (ho : Is2 oh (hot M)) (hi : Is2 ip (inp W M)) (hw : Is2 wh W.wh) (hv : Is2 v m) : Is2 (roundI oh ip wh v) (step W M m) := by
  have h1 : Is2 (takeI oh (segI oh v)) (fun j h => seg M m (M.dst j) h) :=
    is2_congr (takeI_is ho (segI_is ho hv)) fun j h => by
      rw [take_hot (fun a => ∑ j, hot M a j * m j h) j, seg_hot]
  have h2 : Is2 (subf (takeI oh (segI oh v)) v) (fun j h => seg M m (M.dst j) h - m j h) := fun j h => by
    show (takeI oh (segI oh v)) (ix2 j h) - v (ix2 j h) = _
    rw [h1 j h, hv j h, EReal.coe_sub]
  have h3 := revI_is h2
  intro j h
  unfold roundI reluI
  generalize revI (subf (takeI oh (segI oh v)) v) = r at h3 ⊢
  pointwise
  rw [sum_mul_coe _ _ (fun k => seg M m (M.dst (flip j)) k - m (flip j) k) (fun k => W.wh k h) (fun k => h3 j k) (fun k => hw k h),
    hi j h, ← EReal.coe_add, coe_max0]
  rfl

theorem reluI_is {ip : FVec Ideal S3200x128 .f32} (hi : Is2 ip (inp W M)) : Is2 (reluI ip) (msg0 W M) := by
  intro j h
  unfold reluI
  pointwise
  rw [hi j h, coe_max0]
  rfl

theorem amsgI_is {oh : FVec Ideal S128x3200 .bf16} {ip : FVec Ideal S3200x128 .f32} {wh : FVec Ideal S128x128 .f32}
    (ho : Is2 oh (hot M)) (hi : Is2 ip (inp W M)) (hw : Is2 wh W.wh) :
    Is2 (amsgI oh ip wh) (fun a h => ∑ j, hot M a j * msg2 W M j h) :=
  segI_is ho (roundI_is ho hi hw (roundI_is ho hi hw (reluI_is hi)))

/-- The padded features of the atoms. -/
def faP (M : Mol) (a : Fin 128) (k : Fin 128) : EReal := if h : a.val < 100 then M.fa ⟨a.val, h⟩ k else 0
/-- The hidden states of the padded atoms. -/
def hidR (W : Wts) (M : Mol) (a : Fin 128) (h : Fin 128) : EReal :=
  max ((∑ k : Fin 128, faP M a k * W.wo (Fin.castLE (by omega) k) h)
    + (∑ k : Fin 128, ((∑ j, hot M a j * msg2 W M j k : ℝ) : EReal) * W.wo (Fin.natAdd 128 k) h) + W.bo h) 0

theorem hidR_nonneg (a : Fin 128) (h : Fin 128) : 0 ≤ hidR W M a h := le_max_right _ _

theorem hidR_eq (a : Fin 100) (h : Fin 128) : hidR W M (Fin.castLE (by omega) a) h = ah W M a h := by
  unfold hidR ah
  congr 1; congr 1; congr 1
  · refine Finset.sum_congr rfl fun k _ => ?_
    unfold faP
    rw [dif_pos (show (Fin.castLE _ a : Fin 128).val < 100 from a.isLt)]
    rfl
  · refine Finset.sum_congr rfl fun k _ => ?_
    rw [seg_hot]

theorem hidI_is {am wa wb : FVec Ideal S128x128 .f32} {fa : FVec Ideal S100x128 .f32} {b : FVec Ideal S1x128 .f32}
    (hm : Is2 am (fun a h => ∑ j, hot M a j * msg2 W M j h)) (hf : Is2E fa M.fa)
    (ha : Is2E wa (fun k h => W.wo (Fin.castLE (by omega) k) h)) (hb : Is2E wb (fun k h => W.wo (Fin.natAdd 128 k) h))
    (h8 : ∀ h, b (ix2 0 h) = W.bo h) : Is2E (hidI am fa wa wb b) (hidR W M) := by
  intro a h
  unfold hidI
  pointwise
  rw [sum_mul_congr _ _ (fun k => faP M a k) (fun k => W.wo (Fin.castLE (by omega) k) h) (fun k => ?_) (fun k => ha k h),
    sum_mul_congr _ _ (fun k => ((∑ j, hot M a j * msg2 W M j k : ℝ) : EReal)) (fun k => W.wo (Fin.natAdd 128 k) h) (fun k => hm a k) (fun k => hb k h),
    h8]
  · rfl
  · unfold faP
    split
    · rw [hf]
    · rfl

theorem nodeI_is {hd wn : FVec Ideal S128x128 .f32} {b : FVec Ideal S1x128 .f32}
    (hh : Is2E hd (hidR W M)) (hw : Is2E wn W.wn) (hb : ∀ h, b (ix2 0 h) = W.bn h) :
    Is2E (nodeI hd wn b) (node W M) := by
  intro a h
  unfold nodeI
  pointwise
  rw [sum_mul_congr _ _ (fun k => ah W M a k) (fun k => W.wn k h) (fun k => ?_) (fun k => hw k h), hb]
  · rfl
  · rw [← hidR_eq a k]; exact hh _ k

theorem oh2I_is {B : Nat} (hB : B < 10000) {row : IVec S1x1600 32} (d : Fin 1600 → Fin 100)
    (hr : ∀ f, row (ix2 0 f) = BitVec.ofNat 32 (B + (d f).val)) :
    Is2 (oh2I (BitVec.ofNat 32 B) row) (fun a f => if (d f).val = a.val then 1 else 0) := by
  intro a j
  unfold oh2I
  pointwise
  rw [hr j]
  exact hot_word (by have := (d j).isLt; omega) a.isLt

theorem half_bits : Ideal.ofBits .f32 0x3F000000#32 = ((1 / 2 : ℝ) : EReal) := by
  have e : (1056964608 >>> 23 % 256 : ℕ) = 126 := by decide
  have e2 : BitVec.extractLsb' 31 1 1056964608#32 = 0#1 := by decide
  simp [Ideal.ofBits, Ideal.ieee, e, e2]
  norm_num
  rw [← EReal.coe_mul]
  norm_num

/-- Rows read by a sum of two one-hot columns are the two rows added. -/
theorem sum_pair (x : Fin 128 → EReal) (p q : Fin 100) :
    ∑ a : Fin 128, (((if p.val = a.val then 1 else 0 : ℝ) : EReal) + ((if q.val = a.val then 1 else 0 : ℝ) : EReal)) * x a
      = x (Fin.castLE (by omega) p) + x (Fin.castLE (by omega) q) := by
  have one : ∀ d : Fin 100, ∑ a : Fin 128, ((if d.val = a.val then 1 else 0 : ℝ) : EReal) * x a = x (Fin.castLE (by omega) d) := fun d => by
    rw [Finset.sum_eq_single (Fin.castLE (by omega) d)]
    · rw [if_pos (show d.val = (Fin.castLE _ d : Fin 128).val from rfl), EReal.coe_one, one_mul]
    · intro a _ ha
      rw [if_neg (fun h => ha (Fin.ext h.symm)), EReal.coe_zero, zero_mul]
    · intro h; exact absurd (Finset.mem_univ _) h
  have pos : ∀ d : Fin 100, ∀ a : Fin 128, (0 : EReal) ≤ ((if d.val = a.val then 1 else 0 : ℝ) : EReal) := fun d a =>
    EReal.coe_nonneg.2 (by split <;> norm_num)
  rw [Finset.sum_congr rfl fun a _ => EReal.right_distrib_of_nonneg (pos p a) (pos q a), Finset.sum_add_distrib, one, one]

/-- Half of the sum of two rows' products is the product of their mean. -/
theorem half_heads (p q : Fin 128 → EReal) (w : Fin 128 → EReal) (hp : ∀ k, 0 ≤ p k) (hq : ∀ k, 0 ≤ q k) :
    ((1 / 2 : ℝ) : EReal) * (∑ k, p k * w k + ∑ k, q k * w k) = ∑ k, (((1 / 2 : ℝ) : EReal) * (p k + q k)) * w k := by
  rw [← Finset.sum_add_distrib, coe_mul_sum _ _ (by norm_num)]
  exact Finset.sum_congr rfl fun k _ => by rw [mul_assoc, EReal.right_distrib_of_nonneg (hp k) (hq k)]

theorem edgeI_is {hd : FVec Ideal S128x128 .f32} {we : FVec Ideal S128x16 .f32} {b : FVec Ideal S1x16 .f32} {B : Nat} (hB : B < 10000)
    {se de : IVec S1x1600 32} (hh : Is2E hd (hidR W M)) (hw : Is2E we W.we) (hb : ∀ c, b (ix2 0 c) = W.be c)
    (hs : ∀ f, se (ix2 0 f) = BitVec.ofNat 32 (B + (M.dst (bwd f)).val)) (hd' : ∀ f, de (ix2 0 f) = BitVec.ofNat 32 (B + (M.dst (fwd f)).val)) :
    Is2E (edgeI hd we (BitVec.ofNat 32 B) se de b) (edge W M) := by
  have h1 := oh2I_is hB (fun f => M.dst (bwd f)) hs
  have h2 := oh2I_is hB (fun f => M.dst (fwd f)) hd'
  intro f c
  unfold edgeI
  generalize oh2I (BitVec.ofNat 32 B) se = o1 at h1 ⊢
  generalize oh2I (BitVec.ofNat 32 B) de = o2 at h2 ⊢
  pointwise
  rw [sum_mul_congr _ _ (fun a : Fin 128 => (((if (M.dst (bwd f)).val = a.val then 1 else 0 : ℝ) : EReal) + ((if (M.dst (fwd f)).val = a.val then 1 else 0 : ℝ) : EReal)))
      (fun a => ∑ k, hidR W M a k * W.we k c) (fun a => by rw [h1 a f, h2 a f])
      (fun a => sum_mul_congr _ _ _ _ (fun k => hh a k) (fun k => hw k c)),
    sum_pair (fun a => ∑ k, hidR W M a k * W.we k c), half_bits, hb,
    half_heads (hidR W M (Fin.castLE (by omega) (M.dst (bwd f)))) (hidR W M (Fin.castLE (by omega) (M.dst (fwd f)))) (fun k => W.we k c)
      (fun k => hidR_nonneg _ k) (fun k => hidR_nonneg _ k)]
  unfold edge
  congr 1
  refine Finset.sum_congr rfl fun k _ => ?_
  rw [hidR_eq, hidR_eq]

theorem molI_is {hd : FVec Ideal S128x128 .f32} (hh : Is2E hd (hidR W M)) (h : Fin 128) :
    molI hd (ix2 0 h) = gsum W M h := by
  unfold molI k0_pay18
  pointwise
  have e : ∀ x : Fin 128, Scalar.select (IntOp.cmpi .slt (BitVec.ofNat 32 x.val) 100#32) (hd (ix2 x h)) 0
      = if x.val < 100 then hidR W M x h else 0 := fun x => by
    have hx := x.isLt
    have hx2 : (BitVec.ofNat 32 x.val).toNat = x.val := by rw [BitVec.toNat_ofNat]; omega
    have hs : (BitVec.ofNat 32 x.val).slt 100#32 = decide (x.val < 100) := by
      rw [BitVec.slt_eq_ult_of_msb_eq]
      · rw [BitVec.ult, hx2]; rfl
      · rw [BitVec.msb_eq_false_iff_two_mul_lt.2 (by rw [hx2]; omega)]; rfl
    simp only [Scalar.select, IntOp.cmpi, hs]
    by_cases c : x.val < 100
    · simp [c, hh x h]
    · simp [c]
  rw [Finset.sum_congr rfl fun x _ => e x]
  unfold gsum
  rw [← Finset.sum_filter]
  refine (Finset.sum_bij (fun (a : Fin 100) _ => (Fin.castLE (by omega) a : Fin 128)) ?_ ?_ ?_ ?_).symm
  · intro a _; exact Finset.mem_filter.2 ⟨Finset.mem_univ _, a.isLt⟩
  · intro a _ b _ e; exact Fin.ext (congrArg (fun x : Fin 128 => x.val) e)
  · intro b hb; exact ⟨⟨b.val, (Finset.mem_filter.1 hb).2⟩, Finset.mem_univ _, rfl⟩
  · intro a _; exact (hidR_eq a h).symm

/-- The graph head of the molecules' sums. -/
theorem pay3_is {Ms : Fin 100 → Mol} {g : FVec Ideal S100x128 .f32} {g1 : FVec Ideal S128x128 .f32} {c1 : FVec Ideal S1x128 .f32}
    {g2 : FVec Ideal S128x1 .f32} {c2 : FVec Ideal S1x1 .f32}
    (hg : Is2E g (fun k h => gsum W (Ms k) h)) (h1 : Is2E g1 W.g1) (hc1 : ∀ h, c1 (ix2 0 h) = W.c1 h)
    (h2 : Is2E g2 W.g2) (hc2 : ∀ c, c2 (ix2 0 c) = W.c2 c) :
    Is2E (k0_pay3 (F := Ideal) g g1 c1 g2 c2) (fun k c => graph W (Ms k) c) := by
  intro k c
  unfold k0_pay3
  pointwise
  rw [sum_mul_congr _ _ (fun h => max ((∑ j, gsum W (Ms k) j * W.g1 j h) + W.c1 h) 0) (fun h => W.g2 h c) (fun h => ?_) (fun h => h2 h c)]
  · have hc : c = 0 := Subsingleton.elim _ _
    subst hc
    rw [hc2]
    rfl
  · rw [sum_mul_congr _ _ (fun j => gsum W (Ms k) j) (fun j => W.g1 j h) (fun j => hg k j) (fun j => h1 j h), hc1]

end Cert.KernelIdeal.Gen

end
-- ==== Proof.KIns.lean ====
module

public import proofs.«01_k».proof.Proof.KFrame
public import proofs.«01_k».proof.Proof.BlkMath
public import Idealize.ShloMosaic.Lib.Pipeline.ValueKit
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Spec

variable (m : (ℓ : Loc nD τ sig) → Buf (Elt Ideal) ℓ)

/-! ## Where each window's block lies -/

theorem pt_lt (t : Fin cfg0.N) : t.val < 50 := Nat.lt_of_lt_of_eq t.isLt N_0
theorem wi0_0 (t : Fin cfg0.N) : win0_0.index t 0 = t.val := by
  have ht := pt_lt t
  show (BitVec.ofNat 32 (grid0.coords t 0).val).toNat = t.val
  rw [coords_eq t, BitVec.toNat_ofNat]; omega
theorem wi0_1 (t : Fin cfg0.N) : win0_0.index t 1 = 0 := rfl
theorem wi1_0 (t : Fin cfg0.N) : win0_1.index t 0 = t.val := by
  have ht := pt_lt t
  show (BitVec.ofNat 32 (grid0.coords t 0).val).toNat = t.val
  rw [coords_eq t, BitVec.toNat_ofNat]; omega
theorem wi1_1 (t : Fin cfg0.N) : win0_1.index t 1 = 0 := rfl
theorem wi17_0 (t : Fin cfg0.N) : win0_17.index t 0 = t.val := by
  have ht := pt_lt t
  show (BitVec.ofNat 32 (grid0.coords t 0).val).toNat = t.val
  rw [coords_eq t, BitVec.toNat_ofNat]; omega
theorem wi17_1 (t : Fin cfg0.N) : win0_17.index t 1 = 0 := rfl
theorem wi18_0 (t : Fin cfg0.N) : win0_18.index t 0 = t.val := by
  have ht := pt_lt t
  show (BitVec.ofNat 32 (grid0.coords t 0).val).toNat = t.val
  rw [coords_eq t, BitVec.toNat_ofNat]; omega
theorem wi18_1 (t : Fin cfg0.N) : win0_18.index t 1 = 0 := rfl
theorem wi2_0 (t : Fin cfg0.N) : win0_2.index t 0 = 0 := rfl
theorem wi2_1 (t : Fin cfg0.N) : win0_2.index t 1 = 0 := rfl
theorem wi3_0 (t : Fin cfg0.N) : win0_3.index t 0 = 0 := rfl
theorem wi3_1 (t : Fin cfg0.N) : win0_3.index t 1 = 0 := rfl
theorem wi4_0 (t : Fin cfg0.N) : win0_4.index t 0 = 0 := rfl
theorem wi4_1 (t : Fin cfg0.N) : win0_4.index t 1 = 0 := rfl
theorem wi5_0 (t : Fin cfg0.N) : win0_5.index t 0 = 0 := rfl
theorem wi5_1 (t : Fin cfg0.N) : win0_5.index t 1 = 0 := rfl
theorem wi6_0 (t : Fin cfg0.N) : win0_6.index t 0 = 0 := rfl
theorem wi6_1 (t : Fin cfg0.N) : win0_6.index t 1 = 0 := rfl
theorem wi7_0 (t : Fin cfg0.N) : win0_7.index t 0 = 0 := rfl
theorem wi7_1 (t : Fin cfg0.N) : win0_7.index t 1 = 0 := rfl
theorem wi8_0 (t : Fin cfg0.N) : win0_8.index t 0 = 0 := rfl
theorem wi8_1 (t : Fin cfg0.N) : win0_8.index t 1 = 0 := rfl
theorem wi9_0 (t : Fin cfg0.N) : win0_9.index t 0 = 0 := rfl
theorem wi9_1 (t : Fin cfg0.N) : win0_9.index t 1 = 0 := rfl
theorem wi10_0 (t : Fin cfg0.N) : win0_10.index t 0 = 0 := rfl
theorem wi10_1 (t : Fin cfg0.N) : win0_10.index t 1 = 0 := rfl
theorem wi11_0 (t : Fin cfg0.N) : win0_11.index t 0 = 0 := rfl
theorem wi11_1 (t : Fin cfg0.N) : win0_11.index t 1 = 0 := rfl
theorem wi12_0 (t : Fin cfg0.N) : win0_12.index t 0 = 0 := rfl
theorem wi12_1 (t : Fin cfg0.N) : win0_12.index t 1 = 0 := rfl
theorem wi13_0 (t : Fin cfg0.N) : win0_13.index t 0 = 0 := rfl
theorem wi13_1 (t : Fin cfg0.N) : win0_13.index t 1 = 0 := rfl
theorem wi14_0 (t : Fin cfg0.N) : win0_14.index t 0 = 0 := rfl
theorem wi14_1 (t : Fin cfg0.N) : win0_14.index t 1 = 0 := rfl
theorem wi15_0 (t : Fin cfg0.N) : win0_15.index t 0 = 0 := rfl
theorem wi15_1 (t : Fin cfg0.N) : win0_15.index t 1 = 0 := rfl
theorem wi16_0 (t : Fin cfg0.N) : win0_16.index t 0 = 0 := rfl
theorem wi16_1 (t : Fin cfg0.N) : win0_16.index t 1 = 0 := rfl

/-! ## Every input block, read in the arguments -/

theorem ib0 (c : Dev nD) (t : Fin cfg0.N) (r : Fin 200) (h : Fin 128) (hr : 200 * t.val + r.val < 10000) :
    iblk m c 0 t (ix2 r h) = m ((c.tc : Thread nD τ).loc main_arg0) (ix2 ⟨200 * t.val + r.val, hr⟩ h) := by
  blk_ext [iblk, V, wi0_0, wi0_1]

theorem ib1 (c : Dev nD) (t : Fin cfg0.N) (r : Fin 6400) (h : Fin 144) (hr : 6400 * t.val + r.val < 320000) :
    iblk m c 1 t (ix2 r h) = m ((c.tc : Thread nD τ).loc main_arg1) (ix2 ⟨6400 * t.val + r.val, hr⟩ h) := by
  blk_ext [iblk, V, wi1_0, wi1_1]

theorem ib2 (c : Dev nD) (t : Fin cfg0.N) (k : Fin 100) (j : Fin 3200) :
    iblk m c 2 t (ix2 k j) = m ((c.tc : Thread nD τ).loc main_arg2) (ix2 1 (edgeIx k j)) := by
  blk_simp [iblk]
  entry_read
  pointwise
  blk_ext [wi2_0, wi2_1, edgeIx, fwd]

theorem ib3 (c : Dev nD) (t : Fin cfg0.N) (k : Fin 100) (j : Fin 1600) :
    iblk m c 3 t (ix2 k j) = m ((c.tc : Thread nD τ).loc main_arg2) (ix2 0 (edgeIx k (fwd j))) := by
  blk_simp [iblk]
  entry_read
  pointwise
  blk_ext [wi3_0, wi3_1, edgeIx, fwd]

theorem ib4 (c : Dev nD) (t : Fin cfg0.N) (k : Fin 100) (j : Fin 1600) :
    iblk m c 4 t (ix2 k j) = m ((c.tc : Thread nD τ).loc main_arg2) (ix2 1 (edgeIx k (fwd j))) := by
  blk_simp [iblk]
  entry_read
  pointwise
  blk_ext [wi4_0, wi4_1, edgeIx, fwd]

theorem ib5 (c : Dev nD) (t : Fin cfg0.N) (k : Fin 144) (h : Fin 128) :
    iblk m c 5 t (ix2 k h) = m ((c.tc : Thread nD τ).loc main_arg4) (ix2 k h) := by
  blk_ext [iblk, V, wi5_0, wi5_1]

theorem ib6 (c : Dev nD) (t : Fin cfg0.N) (k : Fin 128) (h : Fin 128) :
    iblk m c 6 t (ix2 k h) = m ((c.tc : Thread nD τ).loc main_arg5) (ix2 k h) := by
  blk_ext [iblk, V, wi6_0, wi6_1]

theorem ib7 (c : Dev nD) (t : Fin cfg0.N) (k : Fin 256) (h : Fin 128) :
    iblk m c 7 t (ix2 k h) = m ((c.tc : Thread nD τ).loc main_arg6) (ix2 k h) := by
  blk_ext [iblk, V, wi7_0, wi7_1]

theorem ib9 (c : Dev nD) (t : Fin cfg0.N) (k : Fin 128) (h : Fin 128) :
    iblk m c 9 t (ix2 k h) = m ((c.tc : Thread nD τ).loc main_arg8) (ix2 k h) := by
  blk_ext [iblk, V, wi9_0, wi9_1]

theorem ib11 (c : Dev nD) (t : Fin cfg0.N) (k : Fin 128) (h : Fin 16) :
    iblk m c 11 t (ix2 k h) = m ((c.tc : Thread nD τ).loc main_arg10) (ix2 k h) := by
  blk_ext [iblk, V, wi11_0, wi11_1]

theorem ib13 (c : Dev nD) (t : Fin cfg0.N) (k : Fin 128) (h : Fin 128) :
    iblk m c 13 t (ix2 k h) = m ((c.tc : Thread nD τ).loc main_arg12) (ix2 k h) := by
  blk_ext [iblk, V, wi13_0, wi13_1]

theorem ib15 (c : Dev nD) (t : Fin cfg0.N) (k : Fin 128) (h : Fin 1) :
    iblk m c 15 t (ix2 k h) = m ((c.tc : Thread nD τ).loc main_arg14) (ix2 k h) := by
  blk_ext [iblk, V, wi15_0, wi15_1]

theorem ib8 (c : Dev nD) (t : Fin cfg0.N) (h : Fin 128) :
    iblk m c 8 t (ix2 0 h) = m ((c.tc : Thread nD τ).loc main_arg7) (ix1 h) := by
  blk_simp [iblk]
  entry_read
  pointwise
  blk_ext [wi8_1]

theorem ib10 (c : Dev nD) (t : Fin cfg0.N) (h : Fin 128) :
    iblk m c 10 t (ix2 0 h) = m ((c.tc : Thread nD τ).loc main_arg9) (ix1 h) := by
  blk_simp [iblk]
  entry_read
  pointwise
  blk_ext [wi10_1]

theorem ib12 (c : Dev nD) (t : Fin cfg0.N) (h : Fin 16) :
    iblk m c 12 t (ix2 0 h) = m ((c.tc : Thread nD τ).loc main_arg11) (ix1 h) := by
  blk_simp [iblk]
  entry_read
  pointwise
  blk_ext [wi12_1]

theorem ib14 (c : Dev nD) (t : Fin cfg0.N) (h : Fin 128) :
    iblk m c 14 t (ix2 0 h) = m ((c.tc : Thread nD τ).loc main_arg13) (ix1 h) := by
  blk_simp [iblk]
  entry_read
  pointwise
  blk_ext [wi14_1]

theorem ib16 (c : Dev nD) (t : Fin cfg0.N) (h : Fin 1) :
    iblk m c 16 t (ix2 0 h) = m ((c.tc : Thread nD τ).loc main_arg15) (ix1 h) := by
  blk_simp [iblk]
  entry_read
  pointwise
  blk_ext [wi16_1]

/-! ## The parts of the blocks that one point loads -/

/-- A unit-stride part of an array read at an index. -/
theorem part_unit {s : Shape} {e : EltTy} (x : Vec Ideal s e) (off size : Fin s.rank → Nat) (inb : ∀ a, off a + size a ≤ s.size a)
    (j : (Rect.unit (s := s) off size inb).toLoadRect.shape.Idx) (y : s.Idx) (h : ∀ a, (y a).val = off a + (j a).val) :
    part x (Rect.unit (s := s) off size inb).toLoadRect j = x y :=
  congrArg x (funext fun a => Fin.ext (by
    show off a + 1 * (j a).val = (y a).val
    rw [h a, Nat.one_mul]))

theorem offs1_0 (i : grid0.Coords) : k0_off1 i 0#32 = ![2 * (i 0).val + 0, 0] := by
  have hi : (i 0).val < 50 := (i 0).isLt
  have e : (Scalar.addi (Scalar.muli (BitVec.ofNat 32 (i 0).val) 2#32) 0#32).toNat = 2 * (i 0).val + 0 := by
    simp only [Scalar.addi, Scalar.muli, IntOp.addi, IntOp.muli, BitVec.toNat_add, BitVec.toNat_mul, BitVec.toNat_ofNat]; omega
  funext a
  match a with
  | ⟨0, _⟩ => exact e
  | ⟨1, _⟩ => rfl

theorem offs1_1 (i : grid0.Coords) : k0_off1 i 1#32 = ![2 * (i 0).val + 1, 0] := by
  have hi : (i 0).val < 50 := (i 0).isLt
  have e : (Scalar.addi (Scalar.muli (BitVec.ofNat 32 (i 0).val) 2#32) 1#32).toNat = 2 * (i 0).val + 1 := by
    simp only [Scalar.addi, Scalar.muli, IntOp.addi, IntOp.muli, BitVec.toNat_add, BitVec.toNat_mul, BitVec.toNat_ofNat]; omega
  funext a
  match a with
  | ⟨0, _⟩ => exact e
  | ⟨1, _⟩ => rfl

theorem offs2_0 (i : grid0.Coords) : k0_off2 i 0#32 = ![2 * (i 0).val + 0, 0] := by
  have hi : (i 0).val < 50 := (i 0).isLt
  have e : (Scalar.addi (Scalar.muli (BitVec.ofNat 32 (i 0).val) 2#32) 0#32).toNat = 2 * (i 0).val + 0 := by
    simp only [Scalar.addi, Scalar.muli, IntOp.addi, IntOp.muli, BitVec.toNat_add, BitVec.toNat_mul, BitVec.toNat_ofNat]; omega
  funext a
  match a with
  | ⟨0, _⟩ => exact e
  | ⟨1, _⟩ => rfl

theorem offs2_1 (i : grid0.Coords) : k0_off2 i 1#32 = ![2 * (i 0).val + 1, 0] := by
  have hi : (i 0).val < 50 := (i 0).isLt
  have e : (Scalar.addi (Scalar.muli (BitVec.ofNat 32 (i 0).val) 2#32) 1#32).toNat = 2 * (i 0).val + 1 := by
    simp only [Scalar.addi, Scalar.muli, IntOp.addi, IntOp.muli, BitVec.toNat_add, BitVec.toNat_mul, BitVec.toNat_ofNat]; omega
  funext a
  match a with
  | ⟨0, _⟩ => exact e
  | ⟨1, _⟩ => rfl

theorem base0_eq (t : Fin cfg0.N) : base0 (grid0.coords t) = BitVec.ofNat 32 (100 * (2 * t.val + 0)) := by
  have ht := pt_lt t
  have hc := coords_eq t
  apply BitVec.eq_of_toNat_eq
  unfold base0
  simp only [Scalar.addi, Scalar.muli, IntOp.addi, IntOp.muli, BitVec.toNat_add, BitVec.toNat_mul, BitVec.toNat_ofNat, hc]; omega

theorem base1_eq (t : Fin cfg0.N) : base1 (grid0.coords t) = BitVec.ofNat 32 (100 * (2 * t.val + 1)) := by
  have ht := pt_lt t
  have hc := coords_eq t
  apply BitVec.eq_of_toNat_eq
  unfold base1
  simp only [Scalar.addi, Scalar.muli, IntOp.addi, IntOp.muli, BitVec.toNat_add, BitVec.toNat_mul, BitVec.toNat_ofNat, hc]; omega

/-- Molecule `u` of point `t`. -/
def mol (t : Fin cfg0.N) (u : Fin 2) : Fin 100 := ⟨2 * t.val + u.val, by have := pt_lt t; omega⟩

theorem dRow0_at (c : Dev nD) (t : Fin cfg0.N) (j : Fin 3200) :
    dRow0 (grid0.coords t) (insAt m c t) (ix2 0 j) = iblk m c 2 t (ix2 (mol t 0) j) := by
  have hc := coords_eq t
  refine part_unit _ _ _ _ _ _ fun a => ?_
  refine Eq.trans ?_ (congrArg (· + _) (congrFun (offs1_0 (grid0.coords t)) a).symm)
  match a with
  | ⟨0, _⟩ =>
    show 2 * t.val + 0 = (2 * (grid0.coords t 0).val + 0) + 0
    rw [hc]
  | ⟨1, _⟩ => exact (Nat.zero_add _).symm

theorem dRow1_at (c : Dev nD) (t : Fin cfg0.N) (j : Fin 3200) :
    dRow1 (grid0.coords t) (insAt m c t) (ix2 0 j) = iblk m c 2 t (ix2 (mol t 1) j) := by
  have hc := coords_eq t
  refine part_unit _ _ _ _ _ _ fun a => ?_
  refine Eq.trans ?_ (congrArg (· + _) (congrFun (offs1_1 (grid0.coords t)) a).symm)
  match a with
  | ⟨0, _⟩ =>
    show 2 * t.val + 1 = (2 * (grid0.coords t 0).val + 1) + 0
    rw [hc]
  | ⟨1, _⟩ => exact (Nat.zero_add _).symm

theorem seRow0_at (c : Dev nD) (t : Fin cfg0.N) (j : Fin 1600) :
    seRow0 (grid0.coords t) (insAt m c t) (ix2 0 j) = iblk m c 3 t (ix2 (mol t 0) j) := by
  have hc := coords_eq t
  refine part_unit _ _ _ _ _ _ fun a => ?_
  refine Eq.trans ?_ (congrArg (· + _) (congrFun (offs2_0 (grid0.coords t)) a).symm)
  match a with
  | ⟨0, _⟩ =>
    show 2 * t.val + 0 = (2 * (grid0.coords t 0).val + 0) + 0
    rw [hc]
  | ⟨1, _⟩ => exact (Nat.zero_add _).symm

theorem seRow1_at (c : Dev nD) (t : Fin cfg0.N) (j : Fin 1600) :
    seRow1 (grid0.coords t) (insAt m c t) (ix2 0 j) = iblk m c 3 t (ix2 (mol t 1) j) := by
  have hc := coords_eq t
  refine part_unit _ _ _ _ _ _ fun a => ?_
  refine Eq.trans ?_ (congrArg (· + _) (congrFun (offs2_1 (grid0.coords t)) a).symm)
  match a with
  | ⟨0, _⟩ =>
    show 2 * t.val + 1 = (2 * (grid0.coords t 0).val + 1) + 0
    rw [hc]
  | ⟨1, _⟩ => exact (Nat.zero_add _).symm

theorem deRow0_at (c : Dev nD) (t : Fin cfg0.N) (j : Fin 1600) :
    deRow0 (grid0.coords t) (insAt m c t) (ix2 0 j) = iblk m c 4 t (ix2 (mol t 0) j) := by
  have hc := coords_eq t
  refine part_unit _ _ _ _ _ _ fun a => ?_
  refine Eq.trans ?_ (congrArg (· + _) (congrFun (offs2_0 (grid0.coords t)) a).symm)
  match a with
  | ⟨0, _⟩ =>
    show 2 * t.val + 0 = (2 * (grid0.coords t 0).val + 0) + 0
    rw [hc]
  | ⟨1, _⟩ => exact (Nat.zero_add _).symm

theorem deRow1_at (c : Dev nD) (t : Fin cfg0.N) (j : Fin 1600) :
    deRow1 (grid0.coords t) (insAt m c t) (ix2 0 j) = iblk m c 4 t (ix2 (mol t 1) j) := by
  have hc := coords_eq t
  refine part_unit _ _ _ _ _ _ fun a => ?_
  refine Eq.trans ?_ (congrArg (· + _) (congrFun (offs2_1 (grid0.coords t)) a).symm)
  match a with
  | ⟨0, _⟩ =>
    show 2 * t.val + 1 = (2 * (grid0.coords t 0).val + 1) + 0
    rw [hc]
  | ⟨1, _⟩ => exact (Nat.zero_add _).symm

end Cert.KernelIdeal.Gen

end
-- ==== Proof.KMath.lean ====
module

public import proofs.«01_k».proof.Proof.KIns

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Spec

/-! ## The loaded parts, entry by entry -/

section
variable (X : Ins Ideal)

theorem w1_at (k : Fin 6400) (h : Fin 144) : w1 X (ix2 k h) = X.x1 (ix2 k h) :=
  part_unit _ _ _ _ _ _ fun a => match a with
    | ⟨0, _⟩ => (Nat.zero_add _).symm
    | ⟨1, _⟩ => (Nat.zero_add _).symm
theorem w5_at (k : Fin 144) (h : Fin 128) : w5 X (ix2 k h) = X.x5 (ix2 k h) :=
  part_unit _ _ _ _ _ _ fun a => match a with
    | ⟨0, _⟩ => (Nat.zero_add _).symm
    | ⟨1, _⟩ => (Nat.zero_add _).symm
theorem w6_at (k : Fin 128) (h : Fin 128) : w6 X (ix2 k h) = X.x6 (ix2 k h) :=
  part_unit _ _ _ _ _ _ fun a => match a with
    | ⟨0, _⟩ => (Nat.zero_add _).symm
    | ⟨1, _⟩ => (Nat.zero_add _).symm
theorem w8_at (k : Fin 1) (h : Fin 128) : w8 X (ix2 k h) = X.x8 (ix2 k h) :=
  part_unit _ _ _ _ _ _ fun a => match a with
    | ⟨0, _⟩ => (Nat.zero_add _).symm
    | ⟨1, _⟩ => (Nat.zero_add _).symm
theorem w9_at (k : Fin 128) (h : Fin 128) : w9 X (ix2 k h) = X.x9 (ix2 k h) :=
  part_unit _ _ _ _ _ _ fun a => match a with
    | ⟨0, _⟩ => (Nat.zero_add _).symm
    | ⟨1, _⟩ => (Nat.zero_add _).symm
theorem w10_at (k : Fin 1) (h : Fin 128) : w10 X (ix2 k h) = X.x10 (ix2 k h) :=
  part_unit _ _ _ _ _ _ fun a => match a with
    | ⟨0, _⟩ => (Nat.zero_add _).symm
    | ⟨1, _⟩ => (Nat.zero_add _).symm
theorem w11_at (k : Fin 128) (h : Fin 16) : w11 X (ix2 k h) = X.x11 (ix2 k h) :=
  part_unit _ _ _ _ _ _ fun a => match a with
    | ⟨0, _⟩ => (Nat.zero_add _).symm
    | ⟨1, _⟩ => (Nat.zero_add _).symm
theorem w12_at (k : Fin 1) (h : Fin 16) : w12 X (ix2 k h) = X.x12 (ix2 k h) :=
  part_unit _ _ _ _ _ _ fun a => match a with
    | ⟨0, _⟩ => (Nat.zero_add _).symm
    | ⟨1, _⟩ => (Nat.zero_add _).symm
theorem w13_at (k : Fin 128) (h : Fin 128) : w13 X (ix2 k h) = X.x13 (ix2 k h) :=
  part_unit _ _ _ _ _ _ fun a => match a with
    | ⟨0, _⟩ => (Nat.zero_add _).symm
    | ⟨1, _⟩ => (Nat.zero_add _).symm
theorem w14_at (k : Fin 1) (h : Fin 128) : w14 X (ix2 k h) = X.x14 (ix2 k h) :=
  part_unit _ _ _ _ _ _ fun a => match a with
    | ⟨0, _⟩ => (Nat.zero_add _).symm
    | ⟨1, _⟩ => (Nat.zero_add _).symm
theorem w15_at (k : Fin 128) (h : Fin 1) : w15 X (ix2 k h) = X.x15 (ix2 k h) :=
  part_unit _ _ _ _ _ _ fun a => match a with
    | ⟨0, _⟩ => (Nat.zero_add _).symm
    | ⟨1, _⟩ => (Nat.zero_add _).symm
theorem w16_at (k : Fin 1) (h : Fin 1) : w16 X (ix2 k h) = X.x16 (ix2 k h) :=
  part_unit _ _ _ _ _ _ fun a => match a with
    | ⟨0, _⟩ => (Nat.zero_add _).symm
    | ⟨1, _⟩ => (Nat.zero_add _).symm
theorem fa0_at (a : Fin 100) (h : Fin 128) : fa0 X (ix2 a h) = X.x0 (ix2 ⟨a.val, by omega⟩ h) :=
  part_unit _ _ _ _ _ _ fun b => match b with
    | ⟨0, _⟩ => (Nat.zero_add _).symm
    | ⟨1, _⟩ => (Nat.zero_add _).symm
theorem fa1_at (a : Fin 100) (h : Fin 128) : fa1 X (ix2 a h) = X.x0 (ix2 ⟨100 + a.val, by omega⟩ h) :=
  part_unit _ _ _ _ _ _ fun b => match b with
    | ⟨0, _⟩ => rfl
    | ⟨1, _⟩ => (Nat.zero_add _).symm
theorem woA_at (a : Fin 128) (h : Fin 128) : woA X (ix2 a h) = X.x7 (ix2 (Fin.castLE (by omega) a) h) :=
  part_unit _ _ _ _ _ _ fun b => match b with
    | ⟨0, _⟩ => (Nat.zero_add _).symm
    | ⟨1, _⟩ => (Nat.zero_add _).symm
theorem woB_at (a : Fin 128) (h : Fin 128) : woB X (ix2 a h) = X.x7 (ix2 (Fin.natAdd 128 a) h) :=
  part_unit _ _ _ _ _ _ fun b => match b with
    | ⟨0, _⟩ => rfl
    | ⟨1, _⟩ => (Nat.zero_add _).symm
end

variable (m : (ℓ : Loc nD τ sig) → Buf (Elt Ideal) ℓ) (c : Dev nD) (W : Wts) (Ms : Fin 100 → Mol)

/-- The kernel's sixteen arguments on device `c` are the molecules `Ms` with the weights `W`. -/
def ArgsAt : Prop :=
  Args W Ms (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

variable {m c W Ms} (hA : ArgsAt m c W Ms) (t : Fin cfg0.N)
include hA

/-! ## What the parts hold when the arguments are molecules and weights -/

theorem is5 : Is2 (w5 (insAt m c t)) W.wi := fun k h => (w5_at _ k h).trans ((ib5 m c t k h).trans (hA.wi k h))
theorem is6 : Is2 (w6 (insAt m c t)) W.wh := fun k h => (w6_at _ k h).trans ((ib6 m c t k h).trans (hA.wh k h))
theorem is9 : Is2E (w9 (insAt m c t)) W.wn := fun k h => (w9_at _ k h).trans ((ib9 m c t k h).trans (hA.wn k h))
theorem is11 : Is2E (w11 (insAt m c t)) W.we := fun k h => (w11_at _ k h).trans ((ib11 m c t k h).trans (hA.we k h))
theorem is13 : Is2E (w13 (insAt m c t)) W.g1 := fun k h => (w13_at _ k h).trans ((ib13 m c t k h).trans (hA.g1 k h))
theorem is15 : Is2E (w15 (insAt m c t)) W.g2 := fun k h => (w15_at _ k h).trans ((ib15 m c t k h).trans (hA.g2 k h))
theorem is8 (h : Fin 128) : w8 (insAt m c t) (ix2 0 h) = W.bo h := (w8_at _ 0 h).trans ((ib8 m c t h).trans (hA.bo h))
theorem is10 (h : Fin 128) : w10 (insAt m c t) (ix2 0 h) = W.bn h := (w10_at _ 0 h).trans ((ib10 m c t h).trans (hA.bn h))
theorem is12 (h : Fin 16) : w12 (insAt m c t) (ix2 0 h) = W.be h := (w12_at _ 0 h).trans ((ib12 m c t h).trans (hA.be h))
theorem is14 (h : Fin 128) : w14 (insAt m c t) (ix2 0 h) = W.c1 h := (w14_at _ 0 h).trans ((ib14 m c t h).trans (hA.c1 h))
theorem is16 (h : Fin 1) : w16 (insAt m c t) (ix2 0 h) = W.c2 h := (w16_at _ 0 h).trans ((ib16 m c t h).trans (hA.c2 h))
theorem isA : Is2E (woA (insAt m c t)) (fun k h => W.wo (Fin.castLE (by omega) k) h) :=
  fun k h => (woA_at _ k h).trans ((ib7 m c t _ h).trans (hA.wo _ h))
theorem isB : Is2E (woB (insAt m c t)) (fun k h => W.wo (Fin.natAdd 128 k) h) :=
  fun k h => (woB_at _ k h).trans ((ib7 m c t _ h).trans (hA.wo _ h))

theorem isf0 : Is2E (fa0 (insAt m c t)) (Ms (mol t 0)).fa := fun a h => by
  have ht := pt_lt t
  refine (fa0_at _ a h).trans ((ib0 m c t _ h (by simp only; omega)).trans (Eq.trans ?_ (hA.fa (mol t 0) a h)))
  congr 1; congr 1
  apply Fin.ext
  show 200 * t.val + a.val = 100 * (2 * t.val + 0) + a.val
  omega

theorem isr0 (j : Fin 3200) : dRow0 (grid0.coords t) (insAt m c t) (ix2 0 j)
    = BitVec.ofNat 32 (100 * (2 * t.val + 0) + ((Ms (mol t 0)).dst j).val) :=
  (dRow0_at m c t j).trans ((ib2 m c t _ j).trans (hA.dst _ j))
theorem iss0 (f : Fin 1600) : seRow0 (grid0.coords t) (insAt m c t) (ix2 0 f)
    = BitVec.ofNat 32 (100 * (2 * t.val + 0) + ((Ms (mol t 0)).dst (bwd f)).val) :=
  (seRow0_at m c t f).trans ((ib3 m c t _ f).trans ((hA.src _ (fwd f)).trans (by rw [flip_fwd]; rfl)))
theorem isd0 (f : Fin 1600) : deRow0 (grid0.coords t) (insAt m c t) (ix2 0 f)
    = BitVec.ofNat 32 (100 * (2 * t.val + 0) + ((Ms (mol t 0)).dst (fwd f)).val) :=
  (deRow0_at m c t f).trans ((ib4 m c t _ f).trans (hA.dst _ (fwd f)))

theorem isi0 : Is2 (ip0 (insAt m c t)) (inp W (Ms (mol t 0))) := fun j h => by
  have ht := pt_lt t
  unfold ip0 k0_pay4
  pointwise
  refine sum_mul_coe _ _ (fun k => (Ms (mol t 0)).fb j k) (fun k => W.wi k h) (fun k => ?_) fun k => is5 hA t k h
  refine (w1_at _ _ k).trans ((ib1 m c t _ k (by simp only; omega)).trans (Eq.trans ?_ (hA.fb (mol t 0) j k)))
  congr 1; congr 1
  apply Fin.ext
  show 6400 * t.val + _ = 3200 * (2 * t.val + 0) + j.val
  simp only; omega

theorem ish0 : Is2E (hid0 (grid0.coords t) (insAt m c t)) (hidR W (Ms (mol t 0))) := by
  have ht := pt_lt t
  rw [hid0_eq, base0_eq]
  exact hidI_is (amsgI_is (ohI_is (by omega) (isr0 hA t)) (isi0 hA t) (is6 hA t)) (isf0 hA t) (isA hA t) (isB hA t) (is8 hA t)

/-- The node head's rows of molecule 0 of the point. -/
theorem node0_is : Is2E (node0 (grid0.coords t) (insAt m c t)) (node W (Ms (mol t 0))) := by
  rw [node0_eq]
  exact nodeI_is (ish0 hA t) (is9 hA t) (is10 hA t)

/-- The edge head's rows of molecule 0 of the point. -/
theorem edge0_is : Is2E (edge0 (grid0.coords t) (insAt m c t)) (edge W (Ms (mol t 0))) := by
  have ht := pt_lt t
  rw [edge0_eq, base0_eq]
  exact edgeI_is (by omega) (ish0 hA t) (is11 hA t) (is12 hA t) (iss0 hA t) (isd0 hA t)

/-- The sum of the hidden states of molecule 0 of the point. -/
theorem mol0_is (h : Fin 128) : mol0 (grid0.coords t) (insAt m c t) (ix2 0 h) = gsum W (Ms (mol t 0)) h := by
  rw [mol0_eq]
  exact molI_is (ish0 hA t) h

theorem isf1 : Is2E (fa1 (insAt m c t)) (Ms (mol t 1)).fa := fun a h => by
  have ht := pt_lt t
  refine (fa1_at _ a h).trans ((ib0 m c t _ h (by simp only; omega)).trans (Eq.trans ?_ (hA.fa (mol t 1) a h)))
  congr 1; congr 1
  apply Fin.ext
  show 200 * t.val + (100 + a.val) = 100 * (2 * t.val + 1) + a.val
  omega

theorem isr1 (j : Fin 3200) : dRow1 (grid0.coords t) (insAt m c t) (ix2 0 j)
    = BitVec.ofNat 32 (100 * (2 * t.val + 1) + ((Ms (mol t 1)).dst j).val) :=
  (dRow1_at m c t j).trans ((ib2 m c t _ j).trans (hA.dst _ j))
theorem iss1 (f : Fin 1600) : seRow1 (grid0.coords t) (insAt m c t) (ix2 0 f)
    = BitVec.ofNat 32 (100 * (2 * t.val + 1) + ((Ms (mol t 1)).dst (bwd f)).val) :=
  (seRow1_at m c t f).trans ((ib3 m c t _ f).trans ((hA.src _ (fwd f)).trans (by rw [flip_fwd]; rfl)))
theorem isd1 (f : Fin 1600) : deRow1 (grid0.coords t) (insAt m c t) (ix2 0 f)
    = BitVec.ofNat 32 (100 * (2 * t.val + 1) + ((Ms (mol t 1)).dst (fwd f)).val) :=
  (deRow1_at m c t f).trans ((ib4 m c t _ f).trans (hA.dst _ (fwd f)))

theorem isi1 : Is2 (ip1 (insAt m c t)) (inp W (Ms (mol t 1))) := fun j h => by
  have ht := pt_lt t
  unfold ip1 k0_pay4
  pointwise
  refine sum_mul_coe _ _ (fun k => (Ms (mol t 1)).fb j k) (fun k => W.wi k h) (fun k => ?_) fun k => is5 hA t k h
  refine (w1_at _ _ k).trans ((ib1 m c t _ k (by simp only; omega)).trans (Eq.trans ?_ (hA.fb (mol t 1) j k)))
  congr 1; congr 1
  apply Fin.ext
  show 6400 * t.val + _ = 3200 * (2 * t.val + 1) + j.val
  simp only; omega

theorem ish1 : Is2E (hid1 (grid0.coords t) (insAt m c t)) (hidR W (Ms (mol t 1))) := by
  have ht := pt_lt t
  rw [hid1_eq, base1_eq]
  exact hidI_is (amsgI_is (ohI_is (by omega) (isr1 hA t)) (isi1 hA t) (is6 hA t)) (isf1 hA t) (isA hA t) (isB hA t) (is8 hA t)

/-- The node head's rows of molecule 1 of the point. -/
theorem node1_is : Is2E (node1 (grid0.coords t) (insAt m c t)) (node W (Ms (mol t 1))) := by
  rw [node1_eq]
  exact nodeI_is (ish1 hA t) (is9 hA t) (is10 hA t)

/-- The edge head's rows of molecule 1 of the point. -/
theorem edge1_is : Is2E (edge1 (grid0.coords t) (insAt m c t)) (edge W (Ms (mol t 1))) := by
  have ht := pt_lt t
  rw [edge1_eq, base1_eq]
  exact edgeI_is (by omega) (ish1 hA t) (is11 hA t) (is12 hA t) (iss1 hA t) (isd1 hA t)

/-- The sum of the hidden states of molecule 1 of the point. -/
theorem mol1_is (h : Fin 128) : mol1 (grid0.coords t) (insAt m c t) (ix2 0 h) = gsum W (Ms (mol t 1)) h := by
  rw [mol1_eq]
  exact molI_is (ish1 hA t) h

end Cert.KernelIdeal.Gen

end
-- ==== Proof.Target.lean ====
module

public import proofs.«01_k».proof.Proof.Spec

@[expose] public section

noncomputable section

namespace Cert.Spec

open Idealize.ShloMosaic

/-! ## The three results as arrays -/

variable (W : Wts) (Ms : Fin 100 → Mol)

/-- The node head of every atom: row `n` is atom `n % 100` of molecule `n / 100`. -/
def nodeG : (⟨2, ![10000, 128]⟩ : Shape).Idx → EReal := fun y =>
  node W (Ms ⟨(y 0).val / 100, by have h : (y 0).val < 10000 := (y 0).isLt; omega⟩) ⟨(y 0).val % 100, by omega⟩ (y 1)
/-- The edge head of every pair of bonds: row `e` is pair `e % 1600` of molecule `e / 1600`. -/
def edgeG : (⟨2, ![160000, 16]⟩ : Shape).Idx → EReal := fun y =>
  edge W (Ms ⟨(y 0).val / 1600, by have h : (y 0).val < 160000 := (y 0).isLt; omega⟩) ⟨(y 0).val % 1600, by omega⟩ (y 1)
/-- The graph head of every molecule. -/
def graphG : (⟨2, ![100, 1]⟩ : Shape).Idx → EReal := fun y => graph W (Ms (y 0)) (y 1)

theorem nodeG_of (k : Fin 100) (a : Fin 100) (h : Fin 128) (y : (⟨2, ![10000, 128]⟩ : Shape).Idx)
    (h0 : (y 0).val = 100 * k.val + a.val) (h1 : (y 1).val = h.val) : nodeG W Ms y = node W (Ms k) a h := by
  unfold nodeG
  have e0 : (⟨(y 0).val / 100, by have h : (y 0).val < 10000 := (y 0).isLt; omega⟩ : Fin 100) = k := Fin.ext (by show (y 0).val / 100 = k.val; omega)
  have e1 : (⟨(y 0).val % 100, by omega⟩ : Fin 100) = a := Fin.ext (by show (y 0).val % 100 = a.val; omega)
  have e2 : (y 1 : Fin 128) = h := Fin.ext h1
  rw [e0, e1, e2]

theorem edgeG_of (k : Fin 100) (f : Fin 1600) (h : Fin 16) (y : (⟨2, ![160000, 16]⟩ : Shape).Idx)
    (h0 : (y 0).val = 1600 * k.val + f.val) (h1 : (y 1).val = h.val) : edgeG W Ms y = edge W (Ms k) f h := by
  unfold edgeG
  have e0 : (⟨(y 0).val / 1600, by have h : (y 0).val < 160000 := (y 0).isLt; omega⟩ : Fin 100) = k := Fin.ext (by show (y 0).val / 1600 = k.val; omega)
  have e1 : (⟨(y 0).val % 1600, by omega⟩ : Fin 1600) = f := Fin.ext (by show (y 0).val % 1600 = f.val; omega)
  have e2 : (y 1 : Fin 16) = h := Fin.ext h1
  rw [e0, e1, e2]

end Cert.Spec

end
-- ==== Proof.KValue.lean ====
module

public import proofs.«01_k».proof.Proof.KMath
public import proofs.«01_k».proof.Proof.Target

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window BodyObligation cellOf)
open Cert.Spec

variable {m : (ℓ : Loc nD τ sig) → Buf (Elt Ideal) ℓ} {c : Dev nD} {W : Wts} {Ms : Fin 100 → Mol} (hA : ArgsAt m c W Ms)
/-- The last grid point. -/
def tLast : Fin cfg0.N := ⟨49, lt_of_lt_of_eq (by decide) N_0.symm⟩

include hA

/-- One point's node block: the node head's rows of its two molecules. -/
theorem nodeOut_is (t : Fin cfg0.N) (y : S200x128.Idx) (z : (⟨2, ![10000, 128]⟩ : Shape).Idx)
    (h0 : (z 0).val = t.val * 200 + (y 0).val) (h1 : (z 1).val = (y 1).val) :
    nodeOut (grid0.coords t) (insAt m c t) y = nodeG W Ms z := by
  have ht := pt_lt t
  have hy : (y 0).val < 200 := (y 0).isLt
  unfold nodeOut
  by_cases h : (y 0).val < 100
  · rw [dif_pos h]
    exact (node0_is hA t _ _).trans (nodeG_of W Ms (mol t 0) ⟨(y 0).val, h⟩ (y 1) z (by show (z 0).val = 100 * (2 * t.val + 0) + (y 0).val; omega) h1).symm
  · rw [dif_neg h]
    exact (node1_is hA t _ _).trans (nodeG_of W Ms (mol t 1) ⟨(y 0).val - 100, by omega⟩ (y 1) z
      (by show (z 0).val = 100 * (2 * t.val + 1) + ((y 0).val - 100); omega) h1).symm

/-- One point's edge block: the edge head's rows of its two molecules. -/
theorem edgeOut_is (t : Fin cfg0.N) (y : S3200x16.Idx) (z : (⟨2, ![160000, 16]⟩ : Shape).Idx)
    (h0 : (z 0).val = t.val * 3200 + (y 0).val) (h1 : (z 1).val = (y 1).val) :
    edgeOut (grid0.coords t) (insAt m c t) y = edgeG W Ms z := by
  have ht := pt_lt t
  have hy : (y 0).val < 3200 := (y 0).isLt
  unfold edgeOut
  by_cases h : (y 0).val < 1600
  · rw [dif_pos h]
    exact (edge0_is hA t _ _).trans (edgeG_of W Ms (mol t 0) ⟨(y 0).val, h⟩ (y 1) z (by show (z 0).val = 1600 * (2 * t.val + 0) + (y 0).val; omega) h1).symm
  · rw [dif_neg h]
    exact (edge1_is hA t _ _).trans (edgeG_of W Ms (mol t 1) ⟨(y 0).val - 1600, by omega⟩ (y 1) z
      (by show (z 0).val = 1600 * (2 * t.val + 1) + ((y 0).val - 1600); omega) h1).symm

/-- The rows of molecule sums at the end. -/
theorem molRows_is (k : Fin 100) (h : Fin 128) (y : S104x128.Idx) (h0 : (y 0).val = k.val) (h1 : (y 1).val = h.val) :
    molRows m c y = gsum W (Ms k) h := by
  have hp : (pt ((y 0).val / 2)).val = k.val / 2 := by
    show (y 0).val / 2 % 50 = k.val / 2
    rw [h0]; omega
  have e1 : (y 1 : Fin 128) = h := Fin.ext h1
  unfold molRows
  by_cases hk : (y 0).val % 2 = 1
  · rw [if_pos hk]
    have em : mol (pt ((y 0).val / 2)) 1 = k := Fin.ext (by
      show 2 * (pt ((y 0).val / 2)).val + 1 = k.val
      rw [hp]; omega)
    refine (mol1_is hA _ (y 1)).trans ?_
    rw [em]
    exact congrArg (fun h : Fin 128 => gsum W (Ms k) h) e1
  · rw [if_neg hk]
    have em : mol (pt ((y 0).val / 2)) 0 = k := Fin.ext (by
      show 2 * (pt ((y 0).val / 2)).val + 0 = k.val
      rw [hp]; omega)
    refine (mol0_is hA _ (y 1)).trans ?_
    rw [em]
    exact congrArg (fun h : Fin 128 => gsum W (Ms k) h) e1

/-! ## What the three result arrays hold when the kernel ends -/

/-- The first result is the node head of every atom. -/
theorem arr17 : (dats m 0 c).arrAt 17 (cfgs 0).N = nodeG W Ms := by
  refine Dat.arrAt_eq_of_covers (dats m 0 c) 17 _ (by decide +kernel) fun t hf y => ?_
  blk_simp
  rw [after0_17]
  refine nodeOut_is hA t y _ ?_ ?_
  · blk_simp [wi17_0]
  · blk_simp [wi17_1]

/-- The second result is the edge head of every pair of bonds. -/
theorem arr18 : (dats m 0 c).arrAt 18 (cfgs 0).N = edgeG W Ms := by
  refine Dat.arrAt_eq_of_covers (dats m 0 c) 18 _ (by decide +kernel) fun t hf y => ?_
  blk_simp
  rw [after0_18]
  refine edgeOut_is hA t y _ ?_ ?_
  · blk_simp [wi18_0]
  · blk_simp [wi18_1]

/-- The third result is the graph head of every molecule. -/
theorem arr19 : (dats m 0 c).arrAt 19 (cfgs 0).N = graphG W Ms := by
  refine (dats m 0 c).arrAt_eq_of_after_last 19 tLast (by decide +kernel) _ fun j => ?_
  blk_simp
  rw [after0_19]
  unfold graphOut
  have e : j = ix2 (j 0) (j 1) := funext fun a => match a with
    | ⟨0, _⟩ => rfl
    | ⟨1, _⟩ => rfl
  rw [e]
  refine (pay3_is (W := W) (Ms := Ms) (fun k h => ?_) (is13 hA tLast) (is14 hA tLast) (is15 hA tLast) (is16 hA tLast) (j 0) (j 1)).trans rfl
  refine (part_unit _ _ _ _ _ (ix2 (⟨k.val, by omega⟩ : Fin 104) h) fun a => ?_).trans (molRows_is hA k h _ rfl rfl)
  match a with
  | ⟨0, _⟩ => exact (Nat.zero_add _).symm
  | ⟨1, _⟩ => exact (Nat.zero_add _).symm

end Cert.KernelIdeal.Gen

end
-- ==== Proof.Scatter.lean ====
module

public import proofs.«01_k».proof.Proof.Spec
public import Idealize.ShloMosaic.Lib.Routing.OpsPair

@[expose] public section

set_option maxRecDepth 16384

noncomputable section

namespace Cert.Spec

open Idealize.ShloMosaic

/-! ## Rows added into a table -/

/-- Entry `(e, c')` of rows scattered into a table lands at `(r, c)` exactly when `c' = c` and the row number of `e` is `r`. -/
theorem lands_row {R E C : Nat} (wf : ScatterDims.WF (⟨2, ![R, C]⟩ : Shape) ⟨2, ![E, 1]⟩ ⟨2, ![E, C]⟩ [1] [0] [0] 1)
    (idx : IVec (⟨2, ![E, 1]⟩ : Shape) 32) (j : (⟨2, ![E, C]⟩ : Shape).Idx) (i : (⟨2, ![R, C]⟩ : Shape).Idx) :
    (⟨[1], [0], [0], 1, wf⟩ : ScatterDims (⟨2, ![R, C]⟩ : Shape) ⟨2, ![E, 1]⟩ ⟨2, ![E, C]⟩).resultIdx? j idx = some i
      ↔ (idx (ix2 (j 0) 0)).toInt = ((i 0).val : Int) ∧ (j 1).val = (i 1).val := by
  rw [Routing.resultIdx?_eq_some]
  have w0 : (⟨[1], [0], [0], 1, wf⟩ : ScatterDims (⟨2, ![R, C]⟩ : Shape) ⟨2, ![E, 1]⟩ ⟨2, ![E, C]⟩).window j 0 = 0 := rfl
  have w1 : (⟨[1], [0], [0], 1, wf⟩ : ScatterDims (⟨2, ![R, C]⟩ : Shape) ⟨2, ![E, 1]⟩ ⟨2, ![E, C]⟩).window j 1 = (j 1).val := rfl
  have s1 : (⟨[1], [0], [0], 1, wf⟩ : ScatterDims (⟨2, ![R, C]⟩ : Shape) ⟨2, ![E, 1]⟩ ⟨2, ![E, C]⟩).start j idx 1 = 0 := rfl
  have s0 : (⟨[1], [0], [0], 1, wf⟩ : ScatterDims (⟨2, ![R, C]⟩ : Shape) ⟨2, ![E, 1]⟩ ⟨2, ![E, C]⟩).start j idx 0 = (idx (ix2 (j 0) 0)).toInt := by
    refine congrArg (fun y => (idx y).toInt) (funext fun b => ?_)
    match b with
    | ⟨0, _⟩ => rfl
    | ⟨1, _⟩ => rfl
  constructor
  · intro h
    have h0 := h 0
    have h1 := h 1
    rw [w0, s0] at h0
    rw [w1, s1] at h1
    exact ⟨by simpa using h0, by omega⟩
  · rintro ⟨h0, h1⟩ a
    match a with
    | ⟨0, _⟩ => exact (congrArg₂ (fun x (y : Nat) => x + (y : Int)) s0 w0).trans (by simpa using h0)
    | ⟨1, _⟩ => exact (congrArg₂ (fun x (y : Nat) => x + (y : Int)) s1 w1).trans ((Int.zero_add _).trans (Int.ofNat_inj.2 h1))

/-- Entry `(r, c)` of a table after rows are added: its own value and the entries `(e, c)` of the rows whose number is `r`. -/
theorem scatter_row {R E C : Nat} (wf : ScatterDims.WF (⟨2, ![R, C]⟩ : Shape) ⟨2, ![E, 1]⟩ ⟨2, ![E, C]⟩ [1] [0] [0] 1)
    (x : (⟨2, ![R, C]⟩ : Shape).Idx → EReal) (idx : IVec (⟨2, ![E, 1]⟩ : Shape) 32) (upd : (⟨2, ![E, C]⟩ : Shape).Idx → EReal)
    (n : Fin E → Fin R) (hR : R < 2 ^ 31) (hn : ∀ e, idx (ix2 e 0) = BitVec.ofNat 32 (n e).val) (r : Fin R) (c : Fin C) :
    Host.scatterAdd (F := Ideal) (φ := .f32) (⟨[1], [0], [0], 1, wf⟩ : ScatterDims (⟨2, ![R, C]⟩ : Shape) ⟨2, ![E, 1]⟩ ⟨2, ![E, C]⟩) x idx upd (ix2 r c)
      = x (ix2 r c) + ∑ e : Fin E, if n e = r then upd (ix2 e c) else 0 := by
  show x (ix2 r c) + _ = _
  congr 1
  have key : ∀ j : (⟨2, ![E, C]⟩ : Shape).Idx,
      ((⟨[1], [0], [0], 1, wf⟩ : ScatterDims (⟨2, ![R, C]⟩ : Shape) ⟨2, ![E, 1]⟩ ⟨2, ![E, C]⟩).resultIdx? j idx = some (ix2 r c)) ↔ (n (j 0) = r ∧ j 1 = c) := by
    intro j
    rw [lands_row wf idx j (ix2 r c), hn (j 0)]
    have hl := (n (j 0)).isLt
    have e : (BitVec.ofNat 32 (n (j 0)).val).toInt = ((n (j 0)).val : Int) := by
      rw [BitVec.toInt_eq_toNat_of_lt (by rw [BitVec.toNat_ofNat, Nat.mod_eq_of_lt (by omega)]; omega), BitVec.toNat_ofNat, Nat.mod_eq_of_lt (by omega)]
    rw [e]
    constructor
    · rintro ⟨h0, h1⟩
      exact ⟨Fin.ext (Int.ofNat_inj.1 h0), Fin.ext h1⟩
    · rintro ⟨h0, h1⟩
      exact ⟨by rw [h0]; rfl, by rw [h1]; rfl⟩
  rw [← Finset.sum_filter]
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have h1 := ((key j).1 (Finset.mem_filter.1 hj).2).2
    funext a
    match a with
    | ⟨0, _⟩ => rfl
    | ⟨1, _⟩ => exact h1.symm
  · intro e he; rfl
  · intro j hj
    have h1 := ((key j).1 (Finset.mem_filter.1 hj).2).2
    congr 1
    funext a
    match a with
    | ⟨0, _⟩ => rfl
    | ⟨1, _⟩ => exact h1

end Cert.Spec

end
-- ==== Proof.RefMath.lean ====
module

public import proofs.«01_k».proof.Proof.Gen.ReferenceIdeal.Read
public import proofs.«01_k».proof.Proof.Scatter
public import proofs.«01_k».proof.Proof.Target
public import proofs.«01_k».proof.Proof.BlkMath
public import Idealize.ShloMosaic.Lib.Pointwise
public import Idealize.ShloMosaic.Lib.Routing.Ops

@[expose] public section

set_option maxRecDepth 16384

noncomputable section

namespace Cert.ReferenceIdeal.Read

open Cert.ReferenceIdeal Cert.ReferenceIdeal.Gen Idealize.ShloMosaic Idealize.ShloMosaic.Tactic
open Cert.Spec

/-! ## The index words of the reference -/

/-- The entries of a bond array, molecule by molecule. -/
def IsE (X : S320000x128.Idx → EReal) (x : Fin 100 → Fin 3200 → Fin 128 → ℝ) : Prop :=
  ∀ k j h, X (ix2 (edgeIx k j) h) = ((x k j h : ℝ) : EReal)
/-- The entries of an atom array, molecule by molecule. -/
def IsN (X : S10000x128.Idx → EReal) (x : Fin 100 → Fin 100 → Fin 128 → ℝ) : Prop :=
  ∀ k a h, X (ix2 (atomIx k a) h) = ((x k a h : ℝ) : EReal)
/-- An array over all atoms is, molecule by molecule, the extended reals `x`. -/
def IsNE (X : S10000x128.Idx → EReal) (x : Fin 100 → Fin 100 → Fin 128 → EReal) : Prop :=
  ∀ k a h, X (ix2 (atomIx k a) h) = x k a h

variable (x2 : IVec S2x320000 32)

theorem small_word {n : Nat} (h : n < 2 ^ 31) : (BitVec.ofNat 32 n).toNat < 2 ^ (32 - 1) := by
  rw [BitVec.toNat_ofNat]; omega

theorem v1_at (e : Fin 320000) : val_main_v1 (F := Ideal) x2 (ix1 e) = x2 (ix2 0 e) := by
  unfold val_main_v1 val_main_v0
  pointwise

theorem v3_at (e : Fin 320000) : val_main_v3 (F := Ideal) x2 (ix1 e) = x2 (ix2 1 e) := by
  unfold val_main_v3 val_main_v2
  pointwise

theorem v10_at (e : Fin 320000) : val_main_v10 (F := Ideal) x2 (ix2 e 0) = x2 (ix2 1 e) := by
  unfold val_main_v10
  pointwise
  exact v3_at x2 e

theorem v17_at (e : Fin 320000) (n : Nat) (hn : n < 2 ^ 31) (h : x2 (ix2 0 e) = BitVec.ofNat 32 n) :
    val_main_v17 (F := Ideal) x2 (ix2 e 0) = BitVec.ofNat 32 n := by
  unfold val_main_v17 val_main_v16 val_main_v13 val_main_v12 val_main_c_0
  pointwise
  rw [v1_at, h]
  exact Routing.wrap_of_lt _ _ (small_word hn)

theorem xor_one (n : Nat) : n ^^^ 1 = if n % 2 = 0 then n + 1 else n - 1 := by
  have h1 : (n ^^^ 1) / 2 = n / 2 := by rw [Nat.xor_div_two]; simp
  have h2 : decide ((n ^^^ 1) % 2 = 1) = Bool.xor (decide (n % 2 = 1)) true := by
    rw [← Nat.testBit_zero, Nat.testBit_xor, Nat.testBit_zero]; rfl
  have h3 : (n ^^^ 1) % 2 = 1 ↔ ¬ n % 2 = 1 := by
    rw [← decide_eq_true_iff (p := (n ^^^ 1) % 2 = 1), h2]
    by_cases h : n % 2 = 1 <;> simp [h]
  split <;> omega

theorem v6_at (k : Fin 100) (j : Fin 3200) : val_main_v6 (F := Ideal) (ix1 (edgeIx k j)) = BitVec.ofNat 32 (edgeIx k (flip j)).val := by
  unfold val_main_v6 val_main_v5 val_main_v4 val_main_c
  pointwise
  apply BitVec.eq_of_toNat_eq
  have e : (3200 * k.val + j.val) % 2 = j.val % 2 := by omega
  have hk := k.isLt
  have hj := j.isLt
  show (BitVec.ofNat 32 (3200 * k.val + j.val) ^^^ 1#32).toNat = (BitVec.ofNat 32 (3200 * k.val + (flip j).val)).toNat
  rw [BitVec.toNat_xor, BitVec.toNat_ofNat, BitVec.toNat_ofNat, BitVec.toNat_ofNat]
  rw [Nat.mod_eq_of_lt (by omega), Nat.mod_eq_of_lt (by omega : 1 < 2 ^ 32), xor_one, e]
  show _ = (3200 * k.val + (if j.val % 2 = 0 then j.val + 1 else j.val - 1)) % 2 ^ 32
  split <;> omega

theorem v24_at (k : Fin 100) (j : Fin 3200) : val_main_v24 (F := Ideal) (ix2 (edgeIx k j) 0) = BitVec.ofNat 32 (edgeIx k (flip j)).val := by
  unfold val_main_v24 val_main_v23 val_main_v20 val_main_v19 val_main_c_2
  pointwise
  rw [v6_at]
  exact Routing.wrap_of_lt _ _ (small_word (by have := (edgeIx k (flip j)).isLt; omega))

theorem v64_at (k : Fin 100) (f : Fin 1600) : val_main_v64 (F := Ideal) x2 (ix1 (pairIx k f)) = x2 (ix2 0 (edgeIx k (fwd f))) := by
  refine (congrArg (val_main_v1 (F := Ideal) x2) (funext fun a => Fin.ext ?_)).trans (v1_at x2 _)
  match a with
  | ⟨0, _⟩ =>
    show 0 + 2 * (1600 * k.val + f.val) = 3200 * k.val + 2 * f.val
    omega

theorem v65_at (k : Fin 100) (f : Fin 1600) : val_main_v65 (F := Ideal) x2 (ix1 (pairIx k f)) = x2 (ix2 1 (edgeIx k (fwd f))) := by
  refine (congrArg (val_main_v3 (F := Ideal) x2) (funext fun a => Fin.ext ?_)).trans (v3_at x2 _)
  match a with
  | ⟨0, _⟩ =>
    show 0 + 2 * (1600 * k.val + f.val) = 3200 * k.val + 2 * f.val
    omega

theorem v71_at (k : Fin 100) (f : Fin 1600) (n : Nat) (hn : n < 2 ^ 31) (h : x2 (ix2 0 (edgeIx k (fwd f))) = BitVec.ofNat 32 n) :
    val_main_v71 (F := Ideal) x2 (ix2 (pairIx k f) 0) = BitVec.ofNat 32 n := by
  unfold val_main_v71 val_main_v70 val_main_v67 val_main_v66 val_main_c_10
  pointwise
  rw [v64_at, h]
  exact Routing.wrap_of_lt _ _ (small_word hn)

theorem v78_at (k : Fin 100) (f : Fin 1600) (n : Nat) (hn : n < 2 ^ 31) (h : x2 (ix2 1 (edgeIx k (fwd f))) = BitVec.ofNat 32 n) :
    val_main_v78 (F := Ideal) x2 (ix2 (pairIx k f) 0) = BitVec.ofNat 32 n := by
  unfold val_main_v78 val_main_v77 val_main_v74 val_main_v73 val_main_c_12
  pointwise
  rw [v65_at, h]
  exact Routing.wrap_of_lt _ _ (small_word hn)

/-! ## One round of the reference -/

/-- The new messages from the sums gathered at the starts and the reverses' messages. -/
def roundR (v7 g r : S320000x128.Idx → EReal) (x5 : S128x128.Idx → EReal) : S320000x128.Idx → EReal :=
  maximumf (F := Ideal) (φ := .f32) (addf (F := Ideal) (φ := .f32) v7
    (Host.dotGeneral (F := Ideal) (φ₁ := .f32) (φ₂ := .f32) dot_S320000x128_S128x128_S320000x128_1_0_0_1_n_n none (subf (F := Ideal) (φ := .f32) g r) x5)) (val_main_call1_v0 (F := Ideal))

theorem roundR_at (v7 g r : S320000x128.Idx → EReal) (x5 : S128x128.Idx → EReal) (e : Fin 320000) (h : Fin 128) :
    roundR v7 g r x5 (ix2 e h) = max (v7 (ix2 e h) + ∑ k : Fin 128, (g (ix2 e k) - r (ix2 e k)) * x5 (ix2 k h)) 0 := by
  unfold roundR val_main_call1_v0 val_main_call1_cst
  pointwise

theorem zeros_at (i : S10000x128.Idx) : val_main_v9 (F := Ideal) i = 0 := by
  unfold val_main_v9 val_main_cst
  show Ideal.ofBits .f32 0x00000000#32 = 0
  exact Ideal.ofBits_zero_f32

theorem zeros100_at (i : S100x128.Idx) : val_main_v87 (F := Ideal) i = 0 := by
  unfold val_main_v87 val_main_cst_15
  show Ideal.ofBits .f32 0x00000000#32 = 0
  exact Ideal.ofBits_zero_f32

theorem v8_at (x1 : S320000x144.Idx → EReal) (x4 : S144x128.Idx → EReal) (e : Fin 320000) (h : Fin 128) :
    val_main_v8 (F := Ideal) x1 x4 (ix2 e h) = max (val_main_v7 (F := Ideal) x1 x4 (ix2 e h)) 0 := by
  unfold val_main_v8 val_main_call0_v0 val_main_call0_cst
  pointwise

theorem v7_at (x1 : S320000x144.Idx → EReal) (x4 : S144x128.Idx → EReal) (e : Fin 320000) (h : Fin 128) :
    val_main_v7 (F := Ideal) x1 x4 (ix2 e h) = ∑ k : Fin 144, x1 (ix2 e k) * x4 (ix2 k h) := by
  unfold val_main_v7
  pointwise

/-- The hidden states from the atoms' features and the sums of the messages. -/
def hidR' (x0 v53 : S10000x128.Idx → EReal) (x6 : S256x128.Idx → EReal) (x7 : S128.Idx → EReal) : S10000x128.Idx → EReal :=
  maximumf (F := Ideal) (φ := .f32) (addf (F := Ideal) (φ := .f32)
    (Host.dotGeneral (F := Ideal) (φ₁ := .f32) (φ₂ := .f32) dot_S10000x256_S256x128_S10000x128_1_0_0_1_n_n none
      (concatenate S10000x256 1 [⟨S10000x128, x0⟩, ⟨S10000x128, v53⟩] concatenates_S10000x128_S10000x128_S10000x256_d1) x6)
    (val_main_v57 (F := Ideal) x7)) (val_main_call3_v0 (F := Ideal))

theorem hidR'_at (x0 v53 : S10000x128.Idx → EReal) (x6 : S256x128.Idx → EReal) (x7 : S128.Idx → EReal) (n : Fin 10000) (h : Fin 128) :
    hidR' x0 v53 x6 x7 (ix2 n h) = max ((∑ k : Fin 128, x0 (ix2 n k) * x6 (ix2 (Fin.castLE (by omega) k) h)
      + ∑ k : Fin 128, v53 (ix2 n k) * x6 (ix2 (Fin.natAdd 128 k) h)) + x7 (ix1 h)) 0 := by
  unfold hidR' val_main_v57 val_main_v56 val_main_call3_v0 val_main_call3_cst
  pointwise
  rfl

theorem v59_eq (x0 : S10000x128.Idx → EReal) (x1 : S320000x144.Idx → EReal) (x4 : S144x128.Idx → EReal) (x5 : S128x128.Idx → EReal)
    (x6 : S256x128.Idx → EReal) (x7 : S128.Idx → EReal) :
    val_main_v59 (F := Ideal) x0 x1 x2 x4 x5 x6 x7 = hidR' x0 (val_main_v53 (F := Ideal) x1 x2 x4 x5) x6 x7 := rfl

theorem v63_at (x0 : S10000x128.Idx → EReal) (x1 : S320000x144.Idx → EReal) (x4 : S144x128.Idx → EReal) (x5 : S128x128.Idx → EReal)
    (x6 : S256x128.Idx → EReal) (x7 : S128.Idx → EReal) (x8 : S128x128.Idx → EReal) (x9 : S128.Idx → EReal) (n : Fin 10000) (h : Fin 128) :
    val_main_v63 (F := Ideal) x0 x1 x2 x4 x5 x6 x7 x8 x9 (ix2 n h)
      = (∑ k : Fin 128, val_main_v59 (F := Ideal) x0 x1 x2 x4 x5 x6 x7 (ix2 n k) * x8 (ix2 k h)) + x9 (ix1 h) := by
  unfold val_main_v63 val_main_v62 val_main_v61 val_main_v60
  generalize val_main_v59 (F := Ideal) x0 x1 x2 x4 x5 x6 x7 = y
  pointwise

theorem v86_at (x0 : S10000x128.Idx → EReal) (x1 : S320000x144.Idx → EReal) (x4 : S144x128.Idx → EReal) (x5 : S128x128.Idx → EReal)
    (x6 : S256x128.Idx → EReal) (x7 : S128.Idx → EReal) (x10 : S128x16.Idx → EReal) (x11 : S16.Idx → EReal) (e : Fin 160000) (h : Fin 16) :
    val_main_v86 (F := Ideal) x0 x1 x2 x4 x5 x6 x7 x10 x11 (ix2 e h)
      = (∑ k : Fin 128, (Ideal.ofBits .f32 0x3F000000#32 * (val_main_v72 (F := Ideal) x0 x1 x2 x4 x5 x6 x7 (ix2 e k)
          + val_main_v79 (F := Ideal) x0 x1 x2 x4 x5 x6 x7 (ix2 e k))) * x10 (ix2 k h)) + x11 (ix1 h) := by
  unfold val_main_v86 val_main_v85 val_main_v84 val_main_v83 val_main_v82 val_main_v81 val_main_v80 val_main_cst_14
  generalize val_main_v72 (F := Ideal) x0 x1 x2 x4 x5 x6 x7 = y
  generalize val_main_v79 (F := Ideal) x0 x1 x2 x4 x5 x6 x7 = z
  pointwise

theorem v98_at (x0 : S10000x128.Idx → EReal) (x1 : S320000x144.Idx → EReal) (x3 : IVec S10000 32) (x4 : S144x128.Idx → EReal)
    (x5 : S128x128.Idx → EReal) (x6 : S256x128.Idx → EReal) (x7 : S128.Idx → EReal) (x12 : S128x128.Idx → EReal) (x13 : S128.Idx → EReal)
    (x14 : S128x1.Idx → EReal) (x15 : S1.Idx → EReal) (k : Fin 100) (c : Fin 1) :
    val_main_v98 (F := Ideal) x0 x1 x2 x3 x4 x5 x6 x7 x12 x13 x14 x15 (ix2 k c)
      = (∑ h : Fin 128, max ((∑ q : Fin 128, val_main_v89 (F := Ideal) x0 x1 x2 x3 x4 x5 x6 x7 (ix2 k q) * x12 (ix2 q h)) + x13 (ix1 h)) 0
          * x14 (ix2 h c)) + x15 (ix1 c) := by
  obtain rfl : c = 0 := Subsingleton.elim _ _
  unfold val_main_v98 val_main_v97 val_main_v96 val_main_v95 val_main_v94 val_main_v93 val_main_v92 val_main_v91 val_main_v90
    val_main_call4_v0 val_main_call4_cst
  generalize val_main_v89 (F := Ideal) x0 x1 x2 x3 x4 x5 x6 x7 = y
  pointwise

/-! ## The reference on molecules -/

section
variable {W : Wts} {Ms : Fin 100 → Mol}
  {x0 : S10000x128.Idx → EReal} {x1 : S320000x144.Idx → EReal} {x2 : IVec S2x320000 32} {x3 : IVec S10000 32}
  {x4 : S144x128.Idx → EReal} {x5 : S128x128.Idx → EReal} {x6 : S256x128.Idx → EReal} {x7 : S128.Idx → EReal}
  {x8 : S128x128.Idx → EReal} {x9 : S128.Idx → EReal} {x10 : S128x16.Idx → EReal} {x11 : S16.Idx → EReal}
  {x12 : S128x128.Idx → EReal} {x13 : S128.Idx → EReal} {x14 : S128x1.Idx → EReal} {x15 : S1.Idx → EReal}
  (hA : Args W Ms x0 x1 x2 x3 x4 x5 x6 x7 x8 x9 x10 x11 x12 x13 x14 x15)
include hA

/-- Messages scattered to the atoms they end at. -/
theorem scat_is {upd : S320000x128.Idx → EReal} {x : Fin 100 → Fin 3200 → Fin 128 → ℝ} (hx : IsE upd x) :
    IsN (Host.scatterAdd (F := Ideal) (φ := .f32) scatter_S10000x128_S320000x1_S320000x128_1_0_0_1 (val_main_v9 (F := Ideal)) (val_main_v10 (F := Ideal) x2) upd)
      (fun k a h => seg (Ms k) (x k) a h) := by
  intro k a h
  have hd : ∀ e : Fin 320000, ∃ n : Fin 10000, val_main_v10 (F := Ideal) x2 (ix2 e 0) = BitVec.ofNat 32 n.val
      ∧ ∀ k' j, e = edgeIx k' j → n = atomIx k' ((Ms k').dst j) := by
    intro e
    obtain ⟨k', j, rfl⟩ := edge_cases e
    refine ⟨atomIx k' ((Ms k').dst j), (v10_at x2 _).trans (hA.dst k' j), fun k2 j2 h2 => ?_⟩
    have h2 : 3200 * k'.val + j.val = 3200 * k2.val + j2.val := congrArg Fin.val h2
    have e1 : k' = k2 := Fin.ext (by omega)
    have e2 : j = j2 := Fin.ext (by omega)
    rw [e1, e2]
  choose n hn hn' using hd
  refine (scatter_row scatter_S10000x128_S320000x1_S320000x128_1_0_0_1_wf _ _ upd n (by omega) hn (atomIx k a) h).trans ?_
  rw [zeros_at, zero_add, sum_edges]
  have e : ∀ k' j, (if n (edgeIx k' j) = atomIx k a then upd (ix2 (edgeIx k' j) h) else 0)
      = (((if atomIx k' ((Ms k').dst j) = atomIx k a then x k' j h else 0 : ℝ)) : EReal) := fun k' j => by
    rw [hn' _ k' j rfl, hx k' j h]
    split <;> rfl
  simp only [e]
  unfold seg
  rw [← sum_edges_at Ms (fun k' j => x k' j h) k a, coe_sum]
  exact Finset.sum_congr rfl fun k' _ => (coe_sum _ _).symm

/-- The sums gathered at the starts of the bonds. -/
theorem take_is {X : S10000x128.Idx → EReal} {x : Fin 100 → Fin 100 → Fin 128 → ℝ} (hx : IsN X x) :
    IsE (Host.gather gather_S10000x128_S320000x1_S320000x128_1_0_n_n_0_1_1128 X (val_main_v17 (F := Ideal) x2))
      (fun k j h => x k ((Ms k).dst (flip j)) h) := by
  intro k j h
  refine Eq.trans ?_ (hx k ((Ms k).dst (flip j)) h)
  exact Routing.gather_row gather_S10000x128_S320000x1_S320000x128_1_0_n_n_0_1_1128 rfl rfl rfl rfl rfl X _ (edgeIx k j) h _
    (v17_at x2 _ _ (by have := (atomIx k ((Ms k).dst (flip j))).isLt; omega) (hA.src k j)) (by norm_num)

omit hA in
/-- The messages of the reverse bonds. -/
theorem rev_is {X : S320000x128.Idx → EReal} {x : Fin 100 → Fin 3200 → Fin 128 → ℝ} (hx : IsE X x) :
    IsE (Host.gather gather_S320000x128_S320000x1_S320000x128_1_0_n_n_0_1_1128 X (val_main_v24 (F := Ideal)))
      (fun k j h => x k (flip j) h) := by
  intro k j h
  refine Eq.trans ?_ (hx k (flip j) h)
  exact Routing.gather_row gather_S320000x128_S320000x1_S320000x128_1_0_n_n_0_1_1128 rfl rfl rfl rfl rfl X _ (edgeIx k j) h _
    (v24_at k j) (by norm_num)

theorem v7_is : IsE (val_main_v7 (F := Ideal) x1 x4) (fun k => inp W (Ms k)) := fun k j h =>
  (v7_at x1 x4 _ h).trans (Cert.KernelIdeal.Gen.sum_mul_coe _ _ _ (fun q => W.wi q h) (fun q => hA.fb k j q) fun q => hA.wi q h)

theorem v8_is : IsE (val_main_v8 (F := Ideal) x1 x4) (fun k => msg0 W (Ms k)) := fun k j h => by
  rw [v8_at, v7_is hA k j h, coe_max0]; rfl

theorem round_is {V : S320000x128.Idx → EReal} {x : Fin 100 → Fin 3200 → Fin 128 → ℝ} (hV : IsE V x) :
    IsE (roundR (val_main_v7 (F := Ideal) x1 x4)
        (Host.gather gather_S10000x128_S320000x1_S320000x128_1_0_n_n_0_1_1128
          (Host.scatterAdd (F := Ideal) (φ := .f32) scatter_S10000x128_S320000x1_S320000x128_1_0_0_1 (val_main_v9 (F := Ideal)) (val_main_v10 (F := Ideal) x2) V)
          (val_main_v17 (F := Ideal) x2))
        (Host.gather gather_S320000x128_S320000x1_S320000x128_1_0_n_n_0_1_1128 V (val_main_v24 (F := Ideal))) x5)
      (fun k => step W (Ms k) (x k)) := by
  intro k j h
  have hg := take_is hA (scat_is hA hV)
  have hr := rev_is hV
  rw [roundR_at, v7_is hA k j h,
    Cert.KernelIdeal.Gen.sum_mul_coe _ _ (fun q => seg (Ms k) (x k) ((Ms k).dst (flip j)) q - x k (flip j) q) (fun q => W.wh q h)
      (fun q => by rw [hg k j q, hr k j q, EReal.coe_sub]) fun q => hA.wh q h, ← EReal.coe_add, coe_max0]
  rfl

theorem v29_is : IsE (val_main_v29 (F := Ideal) x1 x2 x4 x5) (fun k => msg1 W (Ms k)) := round_is hA (v8_is hA)
theorem v50_is : IsE (val_main_v50 (F := Ideal) x1 x2 x4 x5) (fun k => msg2 W (Ms k)) := round_is hA (v29_is hA)
theorem v53_is : IsN (val_main_v53 (F := Ideal) x1 x2 x4 x5) (fun k => seg (Ms k) (msg2 W (Ms k))) := scat_is hA (v50_is hA)

theorem v59_is : IsNE (val_main_v59 (F := Ideal) x0 x1 x2 x4 x5 x6 x7) (fun k => ah W (Ms k)) := by
  intro k a h
  rw [v59_eq, hidR'_at,
    sum_mul_congr _ _ (fun q => (Ms k).fa a q) (fun q => W.wo (Fin.castLE (by omega) q) h) (fun q => hA.fa k a q) (fun q => hA.wo _ h),
    sum_mul_congr _ _ (fun q => ((seg (Ms k) (msg2 W (Ms k)) a q : ℝ) : EReal)) (fun q => W.wo (Fin.natAdd 128 q) h) (fun q => v53_is hA k a q) (fun q => hA.wo _ h),
    hA.bo h]
  rfl

theorem v63_ix (k : Fin 100) (a : Fin 100) (h : Fin 128) :
    val_main_v63 (F := Ideal) x0 x1 x2 x4 x5 x6 x7 x8 x9 (ix2 (atomIx k a) h) = node W (Ms k) a h := by
  rw [v63_at,
    sum_mul_congr _ _ (fun q => ah W (Ms k) a q) (fun q => W.wn q h) (fun q => v59_is hA k a q) (fun q => hA.wn q _),
    hA.bn]
  rfl

/-- The reference's first result is the node head of every atom. -/
theorem v63_is : val_main_v63 (F := Ideal) x0 x1 x2 x4 x5 x6 x7 x8 x9 = nodeG W Ms := by
  funext y
  obtain ⟨k, a, e⟩ := atom_cases (y 0)
  have ey : y = ix2 (atomIx k a) (y 1) := funext fun b => match b with
    | ⟨0, _⟩ => e
    | ⟨1, _⟩ => rfl
  exact (congrArg _ ey).trans ((v63_ix hA k a (y 1)).trans (nodeG_of W Ms k a (y 1) y (congrArg Fin.val e) rfl).symm)

theorem v72_is (k : Fin 100) (f : Fin 1600) (h : Fin 128) :
    val_main_v72 (F := Ideal) x0 x1 x2 x4 x5 x6 x7 (ix2 (pairIx k f) h) = ah W (Ms k) ((Ms k).dst (bwd f)) h := by
  refine Eq.trans ?_ (v59_is hA k ((Ms k).dst (bwd f)) h)
  refine Routing.gather_row gather_S10000x128_S160000x1_S160000x128_1_0_n_n_0_1_1128 rfl rfl rfl rfl rfl _ _ (pairIx k f) h _
    (v71_at x2 k f _ (by have := (atomIx k ((Ms k).dst (bwd f))).isLt; omega) ?_) (by norm_num)
  rw [hA.src k (fwd f), flip_fwd]

theorem v79_is (k : Fin 100) (f : Fin 1600) (h : Fin 128) :
    val_main_v79 (F := Ideal) x0 x1 x2 x4 x5 x6 x7 (ix2 (pairIx k f) h) = ah W (Ms k) ((Ms k).dst (fwd f)) h := by
  refine Eq.trans ?_ (v59_is hA k ((Ms k).dst (fwd f)) h)
  exact Routing.gather_row gather_S10000x128_S160000x1_S160000x128_1_0_n_n_0_1_1128 rfl rfl rfl rfl rfl _ _ (pairIx k f) h _
    (v78_at x2 k f _ (by have := (atomIx k ((Ms k).dst (fwd f))).isLt; omega) (hA.dst k (fwd f))) (by norm_num)

theorem v86_ix (k : Fin 100) (f : Fin 1600) (h : Fin 16) :
    val_main_v86 (F := Ideal) x0 x1 x2 x4 x5 x6 x7 x10 x11 (ix2 (pairIx k f) h) = edge W (Ms k) f h := by
  rw [v86_at, sum_mul_congr _ _
      (fun q => ((1 / 2 : ℝ) : EReal) * (ah W (Ms k) ((Ms k).dst (bwd f)) q + ah W (Ms k) ((Ms k).dst (fwd f)) q)) (fun q => W.we q h)
      (fun q => by rw [v72_is hA, v79_is hA, Cert.KernelIdeal.Gen.half_bits]) (fun q => hA.we q _),
    hA.be]
  rfl

/-- The reference's second result is the edge head of every pair of bonds. -/
theorem v86_is : val_main_v86 (F := Ideal) x0 x1 x2 x4 x5 x6 x7 x10 x11 = edgeG W Ms := by
  funext y
  obtain ⟨k, f, e⟩ := pair_cases (y 0)
  have ey : y = ix2 (pairIx k f) (y 1) := funext fun b => match b with
    | ⟨0, _⟩ => e
    | ⟨1, _⟩ => rfl
  exact (congrArg _ ey).trans ((v86_ix hA k f (y 1)).trans (edgeG_of W Ms k f (y 1) y (congrArg Fin.val e) rfl).symm)

theorem v89_is (k : Fin 100) (h : Fin 128) : val_main_v89 (F := Ideal) x0 x1 x2 x3 x4 x5 x6 x7 (ix2 k h) = gsum W (Ms k) h := by
  have hd : ∀ e : Fin 10000, ∃ n : Fin 100, val_main_v88 (F := Ideal) x3 (ix2 e 0) = BitVec.ofNat 32 n.val
      ∧ ∀ k' j, e = atomIx k' j → n = k' := by
    intro e
    obtain ⟨k', j, rfl⟩ := atom_cases e
    refine ⟨k', Eq.trans ?_ (hA.mol k' j), fun k2 j2 h2 => (atomIx_inj.1 h2).1⟩
    unfold val_main_v88
    pointwise
  choose n hn hn' using hd
  refine (scatter_row scatter_S100x128_S10000x1_S10000x128_1_0_0_1_wf _ _ _ n (by omega) hn k h).trans ?_
  rw [zeros100_at, zero_add, sum_atoms, Finset.sum_eq_single k]
  · unfold gsum
    refine Finset.sum_congr rfl fun a _ => ?_
    rw [if_pos (hn' _ k a rfl)]
    exact v59_is hA k a h
  · intro k' _ hk
    exact Finset.sum_eq_zero fun a _ => if_neg fun e => hk ((hn' _ k' a rfl).symm.trans e)
  · intro hk; exact absurd (Finset.mem_univ _) hk

theorem v98_ix (k : Fin 100) (c : Fin 1) :
    val_main_v98 (F := Ideal) x0 x1 x2 x3 x4 x5 x6 x7 x12 x13 x14 x15 (ix2 k c) = graph W (Ms k) c := by
  rw [v98_at, sum_mul_congr _ _ (fun h => max ((∑ q, gsum W (Ms k) q * W.g1 q h) + W.c1 h) 0) (fun h => W.g2 h c)
      (fun h => by
        rw [sum_mul_congr _ _ (fun q => gsum W (Ms k) q) (fun q => W.g1 q h) (fun q => v89_is hA _ q) (fun q => hA.g1 q h),
          hA.c1]) (fun h => hA.g2 h _),
    hA.c2]
  rfl

/-- The reference's third result is the graph head of every molecule. -/
theorem v98_is : val_main_v98 (F := Ideal) x0 x1 x2 x3 x4 x5 x6 x7 x12 x13 x14 x15 = graphG W Ms := by
  funext y
  have ey : y = ix2 (y 0) (y 1) := funext fun b => match b with
    | ⟨0, _⟩ => rfl
    | ⟨1, _⟩ => rfl
  exact (congrArg _ ey).trans (v98_ix hA (y 0) (y 1))

end

end Cert.ReferenceIdeal.Read

end
-- ==== Proof.PreMath.lean ====
module

public import proofs.«01_k».proof.Proof.Gen.Pre_paired_molecules
public import proofs.«01_k».proof.Proof.Spec
public import Idealize.ShloMosaic.Lib.Pointwise
public import Idealize.ShloMosaic.Lib.StableHlo.Predicate

@[expose] public section

set_option maxRecDepth 16384

noncomputable section

namespace Cert.Pre_paired_molecules

open Cert.Pre_paired_molecules.Gen Idealize.ShloMosaic Idealize.ShloMosaic.Tactic
open Cert.Spec

/-! ## What the precondition says -/

/-- An extended real whose absolute value is below infinity is a real. -/
theorem finite_of {s : Shape} (x : s.Idx → EReal) (h : (⟨0, ![]⟩ : Shape).BroadcastsInDim s ![]) (i : s.Idx)
    (e : cmpf (F := Ideal) (φ := .f32) .olt (Host.absf (F := Ideal) (φ := .f32) x)
      (broadcastInDim s ![] h (constant (F := Ideal) ⟨0, ![]⟩ .f32 0x7F800000#32)) i = 1#1) : ∃ r : ℝ, x i = (r : EReal) := by
  have e : Ideal.cmp .olt (max (x i) (-(x i))) (Ideal.ofBits .f32 0x7F800000#32) = 1#1 := e
  have ht : Ideal.ofBits .f32 0x7F800000#32 = ⊤ := by simp [Ideal.ofBits, Ideal.ieee]
  rw [ht] at e
  have hl : max (x i) (-(x i)) < ⊤ := by
    by_contra hn
    simp [Ideal.cmp, hn] at e
  generalize x i = y at hl
  induction y with
  | bot => simp at hl
  | top => simp at hl
  | coe r => exact ⟨r, rfl⟩

theorem sle_toInt {a b : BitVec 32} (h : IntOp.cmpi .sle a b = 1#1) : a.toInt ≤ b.toInt := by
  have h : BitVec.ofBool (a.sle b) = 1#1 := h
  rw [StableHlo.Predicate.ofBool_eq_one_iff, BitVec.sle_iff_toInt_le] at h
  exact h

theorem slt_toInt {a b : BitVec 32} (h : IntOp.cmpi .slt a b = 1#1) : a.toInt < b.toInt := by
  have h : BitVec.ofBool (a.slt b) = 1#1 := h
  rw [StableHlo.Predicate.ofBool_eq_one_iff, BitVec.slt_iff_toInt_lt] at h
  exact h

variable (x0 : S10000x128.Idx → EReal) (x1 : S320000x144.Idx → EReal) (x2 : IVec S2x320000 32) (x3 : IVec S10000 32)
  (x4 : S144x128.Idx → EReal) (x5 : S128x128.Idx → EReal) (x6 : S256x128.Idx → EReal) (x7 : S128.Idx → EReal)
  (x8 : S128x128.Idx → EReal) (x9 : S128.Idx → EReal) (x10 : S128x16.Idx → EReal) (x11 : S16.Idx → EReal)
  (x12 : S128x128.Idx → EReal) (x13 : S128.Idx → EReal) (x14 : S128x1.Idx → EReal) (x15 : S1.Idx → EReal)

theorem c1_at (k : Fin 100) (j : Fin 3200) : (fn (F := Ideal) x0 x1 x2 x3 x4 x5 x6 x7 x8 x9 x10 x11 x12 x13 x14 x15).1 (ix2 k j)
    = IntOp.cmpi .sle (IntOp.muli 100#32 (BitVec.ofNat 32 k.val)) (x2 (ix2 1 (edgeIx k j))) := by
  unfold fn fn_part1
  dsimp only
  pointwise
  simp only [edgeIx, atomIx, Nat.mul_comm]

theorem c2_at (k : Fin 100) (j : Fin 3200) : (fn (F := Ideal) x0 x1 x2 x3 x4 x5 x6 x7 x8 x9 x10 x11 x12 x13 x14 x15).2.1 (ix2 k j)
    = IntOp.cmpi .slt (x2 (ix2 1 (edgeIx k j))) (IntOp.addi (IntOp.muli 100#32 (BitVec.ofNat 32 k.val)) 100#32) := by
  unfold fn fn_part1
  dsimp only
  pointwise
  simp only [edgeIx, atomIx, Nat.mul_comm]

theorem c3_at (p : Fin 160000) : (fn (F := Ideal) x0 x1 x2 x3 x4 x5 x6 x7 x8 x9 x10 x11 x12 x13 x14 x15).2.2.1 (ix1 p)
    = IntOp.cmpi .eq (x2 (ix2 0 ⟨2 * p.val, by omega⟩)) (x2 (ix2 1 ⟨2 * p.val + 1, by omega⟩)) := by
  unfold fn fn_part1
  dsimp only
  pointwise
  simp only [edgeIx, atomIx, Nat.mul_comm]

theorem c4_at (p : Fin 160000) : (fn (F := Ideal) x0 x1 x2 x3 x4 x5 x6 x7 x8 x9 x10 x11 x12 x13 x14 x15).2.2.2.1 (ix1 p)
    = IntOp.cmpi .eq (x2 (ix2 0 ⟨2 * p.val + 1, by omega⟩)) (x2 (ix2 1 ⟨2 * p.val, by omega⟩)) := by
  unfold fn fn_part1
  dsimp only
  pointwise
  simp only [edgeIx, atomIx, Nat.mul_comm]

theorem c5_at (k a : Fin 100) : (fn (F := Ideal) x0 x1 x2 x3 x4 x5 x6 x7 x8 x9 x10 x11 x12 x13 x14 x15).2.2.2.2.1 (ix2 k a)
    = IntOp.cmpi .eq (x3 (ix1 (atomIx k a))) (BitVec.ofNat 32 k.val) := by
  unfold fn fn_part1
  dsimp only
  pointwise
  simp only [edgeIx, atomIx, Nat.mul_comm]

/-- Arguments that satisfy the precondition are molecules and weights. -/
theorem args_of_pre
    (p0 : (fn (F := Ideal) x0 x1 x2 x3 x4 x5 x6 x7 x8 x9 x10 x11 x12 x13 x14 x15).1 = fun _ => 1#1)
    (p1 : (fn (F := Ideal) x0 x1 x2 x3 x4 x5 x6 x7 x8 x9 x10 x11 x12 x13 x14 x15).2.1 = fun _ => 1#1)
    (p2 : (fn (F := Ideal) x0 x1 x2 x3 x4 x5 x6 x7 x8 x9 x10 x11 x12 x13 x14 x15).2.2.1 = fun _ => 1#1)
    (p3 : (fn (F := Ideal) x0 x1 x2 x3 x4 x5 x6 x7 x8 x9 x10 x11 x12 x13 x14 x15).2.2.2.1 = fun _ => 1#1)
    (p4 : (fn (F := Ideal) x0 x1 x2 x3 x4 x5 x6 x7 x8 x9 x10 x11 x12 x13 x14 x15).2.2.2.2.1 = fun _ => 1#1)
    (p5 : (fn (F := Ideal) x0 x1 x2 x3 x4 x5 x6 x7 x8 x9 x10 x11 x12 x13 x14 x15).2.2.2.2.2.1 = fun _ => 1#1)
    (p6 : (fn (F := Ideal) x0 x1 x2 x3 x4 x5 x6 x7 x8 x9 x10 x11 x12 x13 x14 x15).2.2.2.2.2.2.1 = fun _ => 1#1)
    (p7 : (fn (F := Ideal) x0 x1 x2 x3 x4 x5 x6 x7 x8 x9 x10 x11 x12 x13 x14 x15).2.2.2.2.2.2.2 = fun _ => 1#1) : ∃ W Ms, Args W Ms x0 x1 x2 x3 x4 x5 x6 x7 x8 x9 x10 x11 x12 x13 x14 x15 := by
  have hd : ∀ (k : Fin 100) (j : Fin 3200), ∃ d : Fin 100, x2 (ix2 1 (edgeIx k j)) = BitVec.ofNat 32 (atomIx k d).val := by
    intro k j
    have h1 := sle_toInt ((c1_at x0 x1 x2 x3 x4 x5 x6 x7 x8 x9 x10 x11 x12 x13 x14 x15 k j).symm.trans (congrFun p0 (ix2 k j)))
    have h2 := slt_toInt ((c2_at x0 x1 x2 x3 x4 x5 x6 x7 x8 x9 x10 x11 x12 x13 x14 x15 k j).symm.trans (congrFun p1 (ix2 k j)))
    generalize x2 (ix2 1 (edgeIx k j)) = w at h1 h2
    have hk := k.isLt
    have e1 : IntOp.muli 100#32 (BitVec.ofNat 32 k.val) = BitVec.ofNat 32 (100 * k.val) := by
      apply BitVec.eq_of_toNat_eq
      simp only [IntOp.muli, BitVec.toNat_mul, BitVec.toNat_ofNat]; omega
    have e2 : IntOp.addi (BitVec.ofNat 32 (100 * k.val)) 100#32 = BitVec.ofNat 32 (100 * k.val + 100) := by
      apply BitVec.eq_of_toNat_eq
      simp only [IntOp.addi, BitVec.toNat_add, BitVec.toNat_ofNat]; omega
    rw [e1, StableHlo.Predicate.toInt_ofNat_small _ (by omega)] at h1
    rw [e1, e2, StableHlo.Predicate.toInt_ofNat_small _ (by omega)] at h2
    have hw := w.isLt
    have hn : w.toInt = (w.toNat : Int) := by
      rw [BitVec.toInt_eq_toNat_cond] at h1 h2 ⊢
      split at h1
      · rename_i h; rw [if_pos h]
      · omega
    rw [hn] at h1 h2
    refine ⟨⟨w.toNat - 100 * k.val, by omega⟩, ?_⟩
    apply BitVec.eq_of_toNat_eq
    rw [BitVec.toNat_ofNat]
    show w.toNat = (100 * k.val + (w.toNat - 100 * k.val)) % 2 ^ 32
    omega
  choose dst hdst using hd
  have hs : ∀ (k : Fin 100) (j : Fin 3200), x2 (ix2 0 (edgeIx k j)) = x2 (ix2 1 (edgeIx k (flip j))) := by
    intro k j
    have hk := k.isLt
    have hj := j.isLt
    have hp : (3200 * k.val + j.val) / 2 < 160000 := by omega
    have h3 := StableHlo.Predicate.cmpi_eq_iff.1 ((c3_at x0 x1 x2 x3 x4 x5 x6 x7 x8 x9 x10 x11 x12 x13 x14 x15 ⟨(3200 * k.val + j.val) / 2, hp⟩).symm.trans (congrFun p2 _))
    have h4 := StableHlo.Predicate.cmpi_eq_iff.1 ((c4_at x0 x1 x2 x3 x4 x5 x6 x7 x8 x9 x10 x11 x12 x13 x14 x15 ⟨(3200 * k.val + j.val) / 2, hp⟩).symm.trans (congrFun p3 _))
    by_cases hj2 : j.val % 2 = 0
    · have a1 : (⟨2 * ((3200 * k.val + j.val) / 2), by omega⟩ : Fin 320000) = edgeIx k j := Fin.ext (by
        show 2 * ((3200 * k.val + j.val) / 2) = 3200 * k.val + j.val; omega)
      have a2 : (⟨2 * ((3200 * k.val + j.val) / 2) + 1, by omega⟩ : Fin 320000) = edgeIx k (flip j) := Fin.ext (by
        show 2 * ((3200 * k.val + j.val) / 2) + 1 = 3200 * k.val + (if j.val % 2 = 0 then j.val + 1 else j.val - 1)
        rw [if_pos hj2]; omega)
      exact (congrArg (fun e => x2 (ix2 0 e)) a1).symm.trans (h3.trans (congrArg (fun e => x2 (ix2 1 e)) a2))
    · have a1 : (⟨2 * ((3200 * k.val + j.val) / 2) + 1, by omega⟩ : Fin 320000) = edgeIx k j := Fin.ext (by
        show 2 * ((3200 * k.val + j.val) / 2) + 1 = 3200 * k.val + j.val; omega)
      have a2 : (⟨2 * ((3200 * k.val + j.val) / 2), by omega⟩ : Fin 320000) = edgeIx k (flip j) := Fin.ext (by
        show 2 * ((3200 * k.val + j.val) / 2) = 3200 * k.val + (if j.val % 2 = 0 then j.val + 1 else j.val - 1)
        rw [if_neg hj2]; omega)
      exact (congrArg (fun e => x2 (ix2 0 e)) a1).symm.trans (h4.trans (congrArg (fun e => x2 (ix2 1 e)) a2))
  have f1 : ∀ i, ∃ r : ℝ, x1 i = (r : EReal) := fun i => finite_of x1 _ i (congrFun p5 i)
  have f4 : ∀ i, ∃ r : ℝ, x4 i = (r : EReal) := fun i => finite_of x4 _ i (congrFun p6 i)
  have f5 : ∀ i, ∃ r : ℝ, x5 i = (r : EReal) := fun i => finite_of x5 _ i (congrFun p7 i)
  choose r1 e1 using f1
  choose r4 e4 using f4
  choose r5 e5 using f5
  refine ⟨⟨fun k h => r4 (ix2 k h), fun k h => r5 (ix2 k h), fun k h => x6 (ix2 k h), fun h => x7 (ix1 h), fun k h => x8 (ix2 k h), fun h => x9 (ix1 h),
      fun k h => x10 (ix2 k h), fun h => x11 (ix1 h), fun k h => x12 (ix2 k h), fun h => x13 (ix1 h), fun k h => x14 (ix2 k h), fun h => x15 (ix1 h)⟩,
    fun k => ⟨fun a h => x0 (ix2 (atomIx k a) h), fun j h => r1 (ix2 (edgeIx k j) h), dst k⟩, ?_⟩
  exact {
    fa := fun k a h => rfl
    fb := fun k j h => e1 _
    src := fun k j => (hs k j).trans (hdst k (flip j))
    dst := fun k j => hdst k j
    mol := fun k a => StableHlo.Predicate.cmpi_eq_iff.1 ((c5_at x0 x1 x2 x3 x4 x5 x6 x7 x8 x9 x10 x11 x12 x13 x14 x15 k a).symm.trans (congrFun p4 _))
    wi := fun _ _ => e4 _
    wh := fun _ _ => e5 _
    wo := fun _ _ => rfl
    bo := fun _ => rfl
    wn := fun _ _ => rfl
    bn := fun _ => rfl
    we := fun _ _ => rfl
    be := fun _ => rfl
    g1 := fun _ _ => rfl
    c1 := fun _ => rfl
    g2 := fun _ _ => rfl
    c2 := fun _ => rfl }

end Cert.Pre_paired_molecules

end
-- ==== Proof.Algebraic.lean ====
module

public import proofs.«01_k».proof.Defs
public import proofs.«01_k».proof.Proof.Frames
public import proofs.«01_k».proof.Proof.KValue
public import proofs.«01_k».proof.Proof.RefMath
public import proofs.«01_k».proof.Proof.PreMath
public import proofs.«01_k».proof.Proof.Gen.ReferenceIdeal.Run
public import proofs.«01_k».proof.Proof.Gen.ReferenceIdeal.Read
public import Idealize.ShloMosaic.Lib.Claim

@[expose] public section

noncomputable section

open Idealize.ShloMosaic Idealize.ShloMosaic.TcCoe Idealize.SL.Sem
open Cert.Spec

/-! ## Equal arguments describe the same molecules and weights -/

namespace Cert.Spec

/-- Arrays equal to the arguments of some molecules and weights are arguments of the same ones. -/
theorem Args.of_eq {W : Wts} {Ms : Fin 100 → Mol}
    {x0 y0 : (⟨2, ![10000, 128]⟩ : Shape).Idx → EReal} {x1 y1 : (⟨2, ![320000, 144]⟩ : Shape).Idx → EReal}
    {x2 y2 : (⟨2, ![2, 320000]⟩ : Shape).Idx → BitVec 32} {x3 y3 : (⟨1, ![10000]⟩ : Shape).Idx → BitVec 32}
    {x4 y4 : (⟨2, ![144, 128]⟩ : Shape).Idx → EReal} {x5 y5 : (⟨2, ![128, 128]⟩ : Shape).Idx → EReal}
    {x6 y6 : (⟨2, ![256, 128]⟩ : Shape).Idx → EReal} {x7 y7 : (⟨1, ![128]⟩ : Shape).Idx → EReal}
    {x8 y8 : (⟨2, ![128, 128]⟩ : Shape).Idx → EReal} {x9 y9 : (⟨1, ![128]⟩ : Shape).Idx → EReal}
    {x10 y10 : (⟨2, ![128, 16]⟩ : Shape).Idx → EReal} {x11 y11 : (⟨1, ![16]⟩ : Shape).Idx → EReal}
    {x12 y12 : (⟨2, ![128, 128]⟩ : Shape).Idx → EReal} {x13 y13 : (⟨1, ![128]⟩ : Shape).Idx → EReal}
    {x14 y14 : (⟨2, ![128, 1]⟩ : Shape).Idx → EReal} {x15 y15 : (⟨1, ![1]⟩ : Shape).Idx → EReal}
    (hA : Args W Ms x0 x1 x2 x3 x4 x5 x6 x7 x8 x9 x10 x11 x12 x13 x14 x15)
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) :
    Args W Ms y0 y1 y2 y3 y4 y5 y6 y7 y8 y9 y10 y11 y12 y13 y14 y15 := by
  subst h0 h1 h2 h3 h4 h5 h6 h7 h8 h9 h10 h11 h12 h13 h14 h15
  exact hA

end Cert.Spec

/-! ## The value claim -/

namespace Cert.Proof.Values

/-- Under the precondition the arguments of every device are some molecules with some weights. -/
theorem args_at (m : (ℓ : Loc Cert.KernelIdeal.nD Cert.KernelIdeal.τ Cert.KernelIdeal.sig) → Buf (Elt Ideal) ℓ)
    (hpre : Cert.Pre_KernelIdeal_paired_molecules m) (c : Dev Cert.KernelIdeal.nD) :
    ∃ W Ms, Cert.KernelIdeal.Gen.ArgsAt m c W Ms := by
  obtain ⟨p0, p1, p2, p3, p4, p5, p6, p7⟩ := hpre c
  exact Cert.Pre_paired_molecules.args_of_pre _ _ _ _ _ _ _ _ _ _ _ _ _ _ _ _ p0 p1 p2 p3 p4 p5 p6 p7

/-- On paired molecules the idealized kernel and the reference end with the same three result arrays: the node head,
    the bond head and the molecule head of the mathematics. -/
theorem algebraic : Cert.algebraic_KernelIdeal_ReferenceIdeal_pre_paired_molecules := by
  intro m g m' g' hpre hagree
  choose W Ms hA using args_at m hpre
  have hB : ∀ c, Args (W c) (Ms c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) := fun c => by
    obtain ⟨h0, h1, h2, h3, h4, h5, h6, h7, h8, h9, h10, h11, h12, h13, h14, h15⟩ := hagree c
    exact Args.of_eq (hA c) h0.symm h1.symm h2.symm h3.symm h4.symm h5.symm h6.symm h7.symm h8.symm h9.symm h10.symm h11.symm h12.symm h13.symm h14.symm h15.symm
  refine ⟨fun c => nodeG (W c) (Ms c), fun c => edgeG (W c) (Ms c), fun c => graphG (W c) (Ms c), ?_, ?_⟩
  · refine (θ_run Cert.KernelIdeal.defs _ _).mono (fun r h c => ?_)
      (θ_run_and (Cert.KernelIdeal.Gen.run_main m g) (Frames.kernelIdeal m g trivial))
    exact ⟨((h.1.1 c).1 17).trans (Cert.KernelIdeal.Gen.arr17 (hA c)), ((h.1.1 c).1 18).trans (Cert.KernelIdeal.Gen.arr18 (hA c)),
      ((h.1.1 c).1 19).trans (Cert.KernelIdeal.Gen.arr19 (hA c)), h.2.1 c⟩
  · refine (θ_run Cert.ReferenceIdeal.defs _ _).mono (fun r h c => ?_) (Cert.ReferenceIdeal.Value.run (F := Ideal) m' g')
    exact ⟨(h c).1.trans ((Cert.ReferenceIdeal.Read.val_main_v63_eq m' c).trans (Cert.ReferenceIdeal.Read.v63_is (hB c))),
      (h c).2.1.trans ((Cert.ReferenceIdeal.Read.val_main_v86_eq m' c).trans (Cert.ReferenceIdeal.Read.v86_is (hB c))),
      (h c).2.2.1.trans ((Cert.ReferenceIdeal.Read.val_main_v98_eq m' c).trans (Cert.ReferenceIdeal.Read.v98_is (hB c))), (h c).2.2.2⟩

end Cert.Proof.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_paired_molecules
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The five claims: the frames of the three programs, `preserves` and `algebraic`. -/
theorem claim : Cert.Claim := ⟨Cert.Kernel.Gen.facts, Cert.KernelIdeal.Gen.facts, Cert.ReferenceIdeal.Gen.facts, Cert.Pre_paired_molecules.Gen.facts,
  Frames.kernel,
  Frames.kernelIdeal, fun m ρ _ => Frames.kernelIdeal m ρ trivial,
  Frames.referenceIdeal, fun m ρ _ => Frames.referenceIdeal m ρ trivial,
  trivial, Values.algebraic⟩

end Cert.Proof

end
